-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x768 : Shape := ⟨2, ![32768, 768]⟩
abbrev S64x768 : Shape := ⟨2, ![64, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S32768x768 .f32) (main_arg1 : FVec F S64x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  main_v8
-- ==== Kernel.lean ====
abbrev S32768x768 : Shape := ⟨2, ![32768, 768]⟩
abbrev S64x768 : Shape := ⟨2, ![64, 768]⟩
abbrev S768x64 : Shape := ⟨2, ![768, 64]⟩
abbrev S32768x64 : Shape := ⟨2, ![32768, 64]⟩
abbrev S32768x1 : Shape := ⟨2, ![32768, 1]⟩
abbrev S4096x64 : Shape := ⟨2, ![4096, 64]⟩
abbrev S4096x1 : Shape := ⟨2, ![4096, 1]⟩
abbrev S3x4096x768 : Shape := ⟨3, ![3, 4096, 768]⟩
abbrev S3 : Shape := ⟨1, ![3]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S1x4096x768 : Shape := ⟨3, ![1, 4096, 768]⟩
abbrev S4096x768 : Shape := ⟨2, ![4096, 768]⟩
abbrev S4096 : Shape := ⟨1, ![4096]⟩

abbrev nBuf : Space → Nat
  | .hbm => 6
  | .vmem => 8
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S768x64, .f32⟩
  | .hbm, ⟨3, _⟩ => ⟨S32768x64, .f32⟩
  | .hbm, ⟨4, _⟩ => ⟨S32768x1, .f32⟩
  | .hbm, ⟨5, _⟩ => ⟨S32768x1, .i32⟩
  | .local _ .vmem, ⟨0, _⟩ => ⟨S768x64, .f32⟩
  | .local _ .vmem, ⟨1, _⟩ => ⟨S4096x64, .f32⟩
  | .local _ .vmem, ⟨2, _⟩ => ⟨S4096x64, .f32⟩
  | .local _ .vmem, ⟨3, _⟩ => ⟨S4096x1, .f32⟩
  | .local _ .vmem, ⟨4, _⟩ => ⟨S4096x1, .f32⟩
  | .local _ .vmem, ⟨5, _⟩ => ⟨S4096x1, .i32⟩
  | .local _ .vmem, ⟨6, _⟩ => ⟨S4096x1, .i32⟩
  | .local _ .vmem, ⟨7, _⟩ => ⟨S3x4096x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_2 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off2 (i : grid0.Coords) : Fin 3 → Nat :=
  let arg0 : BitVec 32 := BitVec.ofNat 32 (i 0).val
  let c3_i32 : BitVec 32 := 3#32
  let v3 : BitVec 32 := Scalar.remsi arg0 c3_i32
  let c0_i32_6 : BitVec 32 := 0#32
  let c0_i32_7 : BitVec 32 := 0#32
  ![v3.toNat, 0, 0]
def k0_off3 (i : grid0.Coords) : Fin 2 → Nat :=
  let arg0 : BitVec 32 := BitVec.ofNat 32 (i 0).val
  let c4096_i32 : BitVec 32 := 4096#32
  let v4 : BitVec 32 := Scalar.muli arg0 c4096_i32
  let c0_i32_8 : BitVec 32 := 0#32
  ![v4.toNat, 0]
def k0_off4 (i : grid0.Coords) : Fin 3 → Nat :=
  let arg0 : BitVec 32 := BitVec.ofNat 32 (i 0).val
  let c3_i32 : BitVec 32 := 3#32
  let v3 : BitVec 32 := Scalar.remsi arg0 c3_i32
  let c0_i32_9 : BitVec 32 := 0#32
  let c128_i32 : BitVec 32 := 128#32
  ![v3.toNat, 0, 128]
def k0_off5 (i : grid0.Coords) : Fin 2 → Nat :=
  let arg0 : BitVec 32 := BitVec.ofNat 32 (i 0).val
  let c4096_i32_1 : BitVec 32 := 4096#32
  let v5 : BitVec 32 := Scalar.muli arg0 c4096_i32_1
  let c128_i32_10 : BitVec 32 := 128#32
  ![v5.toNat, 128]
def k0_off6 (i : grid0.Coords) : Fin 3 → Nat :=
  let arg0 : BitVec 32 := BitVec.ofNat 32 (i 0).val
  let c3_i32 : BitVec 32 := 3#32
  let v3 : BitVec 32 := Scalar.remsi arg0 c3_i32
  let c0_i32_11 : BitVec 32 := 0#32
  let c256_i32 : BitVec 32 := 256#32
  ![v3.toNat, 0, 256]
def k0_off7 (i : grid0.Coords) : Fin 2 → Nat :=
  let arg0 : BitVec 32 := BitVec.ofNat 32 (i 0).val
  let c4096_i32_2 : BitVec 32 := 4096#32
  let v6 : BitVec 32 := Scalar.muli arg0 c4096_i32_2
  let c256_i32_12 : BitVec 32 := 256#32
  ![v6.toNat, 256]
def k0_off8 (i : grid0.Coords) : Fin 3 → Nat :=
  let arg0 : BitVec 32 := BitVec.ofNat 32 (i 0).val
  let c3_i32 : BitVec 32 := 3#32
  let v3 : BitVec 32 := Scalar.remsi arg0 c3_i32
  let c0_i32_13 : BitVec 32 := 0#32
  let c384_i32 : BitVec 32 := 384#32
  ![v3.toNat, 0, 384]
def k0_off9 (i : grid0.Coords) : Fin 2 → Nat :=
  let arg0 : BitVec 32 := BitVec.ofNat 32 (i 0).val
  let c4096_i32_3 : BitVec 32 := 4096#32
  let v7 : BitVec 32 := Scalar.muli arg0 c4096_i32_3
  let c384_i32_14 : BitVec 32 := 384#32
  ![v7.toNat, 384]
def k0_off10 (i : grid0.Coords) : Fin 3 → Nat :=
  let arg0 : BitVec 32 := BitVec.ofNat 32 (i 0).val
  let c3_i32 : BitVec 32 := 3#32
  let v3 : BitVec 32 := Scalar.remsi arg0 c3_i32
  let c0_i32_15 : BitVec 32 := 0#32
  let c512_i32 : BitVec 32 := 512#32
  ![v3.toNat, 0, 512]
def k0_off11 (i : grid0.Coords) : Fin 2 → Nat :=
  let arg0 : BitVec 32 := BitVec.ofNat 32 (i 0).val
  let c4096_i32_4 : BitVec 32 := 4096#32
  let v8 : BitVec 32 := Scalar.muli arg0 c4096_i32_4
  let c512_i32_16 : BitVec 32 := 512#32
  ![v8.toNat, 512]
def k0_off12 (i : grid0.Coords) : Fin 3 → Nat :=
  let arg0 : BitVec 32 := BitVec.ofNat 32 (i 0).val
  let c3_i32 : BitVec 32 := 3#32
  let v3 : BitVec 32 := Scalar.remsi arg0 c3_i32
  let c0_i32_17 : BitVec 32 := 0#32
  let c640_i32 : BitVec 32 := 640#32
  ![v3.toNat, 0, 640]
def k0_off13 (i : grid0.Coords) : Fin 2 → Nat :=
  let arg0 : BitVec 32 := BitVec.ofNat 32 (i 0).val
  let c4096_i32_5 : BitVec 32 := 4096#32
  let v9 : BitVec 32 := Scalar.muli arg0 c4096_i32_5
  let c640_i32_18 : BitVec 32 := 640#32
  ![v9.toNat, 640]
def k0_off14 (i : grid0.Coords) : Fin 3 → Nat :=
  let arg0 : BitVec 32 := BitVec.ofNat 32 (i 0).val
  let c3_i32 : BitVec 32 := 3#32
  let v3 : BitVec 32 := Scalar.remsi arg0 c3_i32
  let v40 : Index := Scalar.indexCast v3
  let c0 : Index := 0#32
  let c0_19 : Index := 0#32
  ![v40.toNat, 0, 0]
def k0_cond2 (i : grid0.Coords) : BitVec 1 :=
  let arg0 : BitVec 32 := BitVec.ofNat 32 (i 0).val
  let c3_i32_33 : BitVec 32 := 3#32
  let v69 : BitVec 32 := Scalar.addi arg0 c3_i32_33
  let c8_i32 : BitVec 32 := 8#32
  let v70 : BitVec 1 := Scalar.cmpi .slt v69 c8_i32
  let v71 : BitVec 32 := Scalar.extui v70
  let c0_i32_34 : BitVec 32 := 0#32
  let v72 : BitVec 1 := Scalar.cmpi .ne v71 c0_i32_34
  v72

def k0_off15 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off16 (i : grid0.Coords) : Fin 3 → Nat :=
  let arg0 : BitVec 32 := BitVec.ofNat 32 (i 0).val
  let c3_i32 : BitVec 32 := 3#32
  let v3 : BitVec 32 := Scalar.remsi arg0 c3_i32
  let c0_i32_42 : BitVec 32 := 0#32
  let c0_i32_43 : BitVec 32 := 0#32
  ![v3.toNat, 0, 0]
def k0_off17 (i : grid0.Coords) : Fin 2 → Nat :=
  let arg0 : BitVec 32 := BitVec.ofNat 32 (i 0).val
  let c3_i32_35 : BitVec 32 := 3#32
  let v73 : BitVec 32 := Scalar.addi arg0 c3_i32_35
  let c4096_i32_36 : BitVec 32 := 4096#32
  let v74 : BitVec 32 := Scalar.muli v73 c4096_i32_36
  let c0_i32_44 : BitVec 32 := 0#32
  ![v74.toNat, 0]
def k0_off18 (i : grid0.Coords) : Fin 3 → Nat :=
  let arg0 : BitVec 32 := BitVec.ofNat 32 (i 0).val
  let c3_i32 : BitVec 32 := 3#32
  let v3 : BitVec 32 := Scalar.remsi arg0 c3_i32
  let c0_i32_45 : BitVec 32 := 0#32
  let c128_i32_46 : BitVec 32 := 128#32
  ![v3.toNat, 0, 128]
def k0_off19 (i : grid0.Coords) : Fin 2 → Nat :=
  let arg0 : BitVec 32 := BitVec.ofNat 32 (i 0).val
  let c3_i32_35 : BitVec 32 := 3#32
  let v73 : BitVec 32 := Scalar.addi arg0 c3_i32_35
  let c4096_i32_37 : BitVec 32 := 4096#32
  let v75 : BitVec 32 := Scalar.muli v73 c4096_i32_37
  let c128_i32_47 : BitVec 32 := 128#32
  ![v75.toNat, 128]
def k0_off20 (i : grid0.Coords) : Fin 3 → Nat :=
  let arg0 : BitVec 32 := BitVec.ofNat 32 (i 0).val
  let c3_i32 : BitVec 32 := 3#32
  let v3 : BitVec 32 := Scalar.remsi arg0 c3_i32
  let c0_i32_48 : BitVec 32 := 0#32
  let c256_i32_49 : BitVec 32 := 256#32
  ![v3.toNat, 0, 256]
def k0_off21 (i : grid0.Coords) : Fin 2 → Nat :=
  let arg0 : BitVec 32 := BitVec.ofNat 32 (i 0).val
  let c3_i32_35 : BitVec 32 := 3#32
  let v73 : BitVec 32 := Scalar.addi arg0 c3_i32_35
  let c4096_i32_38 : BitVec 32 := 4096#32
  let v76 : BitVec 32 := Scalar.muli v73 c4096_i32_38
  let c256_i32_50 : BitVec 32 := 256#32
  ![v76.toNat, 256]
def k0_off22 (i : grid0.Coords) : Fin 3 → Nat :=
  let arg0 : BitVec 32 := BitVec.ofNat 32 (i 0).val
  let c3_i32 : BitVec 32 := 3#32
  let v3 : BitVec 32 := Scalar.remsi arg0 c3_i32
  let c0_i32_51 : BitVec 32 := 0#32
  let c384_i32_52 : BitVec 32 := 384#32
  ![v3.toNat, 0, 384]
def k0_off23 (i : grid0.Coords) : Fin 2 → Nat :=
  let arg0 : BitVec 32 := BitVec.ofNat 32 (i 0).val
  let c3_i32_35 : BitVec 32 := 3#32
  let v73 : BitVec 32 := Scalar.addi arg0 c3_i32_35
  let c4096_i32_39 : BitVec 32 := 4096#32
  let v77 : BitVec 32 := Scalar.muli v73 c4096_i32_39
  let c384_i32_53 : BitVec 32 := 384#32
  ![v77.toNat, 384]
def k0_off24 (i : grid0.Coords) : Fin 3 → Nat :=
  let arg0 : BitVec 32 := BitVec.ofNat 32 (i 0).val
  let c3_i32 : BitVec 32 := 3#32
  let v3 : BitVec 32 := Scalar.remsi arg0 c3_i32
  let c0_i32_54 : BitVec 32 := 0#32
  let c512_i32_55 : BitVec 32 := 512#32
  ![v3.toNat, 0, 512]
def k0_off25 (i : grid0.Coords) : Fin 2 → Nat :=
  let arg0 : BitVec 32 := BitVec.ofNat 32 (i 0).val
  let c3_i32_35 : BitVec 32 := 3#32
  let v73 : BitVec 32 := Scalar.addi arg0 c3_i32_35
  let c4096_i32_40 : BitVec 32 := 4096#32
  let v78 : BitVec 32 := Scalar.muli v73 c4096_i32_40
  let c512_i32_56 : BitVec 32 := 512#32
  ![v78.toNat, 512]
def k0_off26 (i : grid0.Coords) : Fin 3 → Nat :=
  let arg0 : BitVec 32 := BitVec.ofNat 32 (i 0).val
  let c3_i32 : BitVec 32 := 3#32
  let v3 : BitVec 32 := Scalar.remsi arg0 c3_i32
  let c0_i32_57 : BitVec 32 := 0#32
  let c640_i32_58 : BitVec 32 := 640#32
  ![v3.toNat, 0, 640]
def k0_off27 (i : grid0.Coords) : Fin 2 → Nat :=
  let arg0 : BitVec 32 := BitVec.ofNat 32 (i 0).val
  let c3_i32_35 : BitVec 32 := 3#32
  let v73 : BitVec 32 := Scalar.addi arg0 c3_i32_35
  let c4096_i32_41 : BitVec 32 := 4096#32
  let v79 : BitVec 32 := Scalar.muli v73 c4096_i32_41
  let c640_i32_59 : BitVec 32 := 640#32
  ![v79.toNat, 640]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S768x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x768 : Shape := ⟨2, ![32768, 768]⟩
abbrev S64x768 : Shape := ⟨2, ![64, 768]⟩
abbrev S768x64 : Shape := ⟨2, ![768, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩

abbrev nBuf : Space → Nat
  | .hbm => 27
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S64x768, .f32⟩
  | .hbm, ⟨2, _⟩ => ⟨S768x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x64, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x64, .f32⟩
  | .hbm, ⟨17, _⟩ => ⟨S32768x64, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x64, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S32768x1, .i32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Router.Reference.lean ====
/- The reference's run. It is a straight line of array operations; here each result is a named function of the two
   arguments: the logits, their softmax, the softmax's greatest value in each row and the place it is first attained. -/
module

public import proofs.«01_k».proof.Proof.Gen.ReferenceIdeal
public import Idealize.ShloMosaic.Lib.StableHlo.Run
public import Idealize.ShloMosaic.Lib.StableHlo.RunHlo
public import Idealize.ShloMosaic.Lib.Quiescent

@[expose] public section

set_option maxRecDepth 16384

noncomputable section

namespace Cert.ReferenceIdeal.Router

open Idealize.ShloMosaic Idealize.ShloMosaic.TcCoe Idealize.ShloMosaic.StableHlo Idealize.SL.Sem
open Cert.ReferenceIdeal.Gen

variable {F : FTy → Type} [FloatOps F]

/-- The logits: activations times the transposed router matrix. -/
def logits (x : Vec F S32768x768 .f32) (w : Vec F S64x768 .f32) : Vec F S32768x64 .f32 :=
  Host.dotGeneral dot_S32768x768_S768x64_S32768x64_1_0_0_1_n_n none x (transpose S768x64 [1, 0] w transposes_S64x768_S768x64_1_0)

/-- The greatest element of each row. -/
def rowMax (l : Vec F S32768x64 .f32) : Vec F S32768 .f32 :=
  Host.reduce FloatOps.maximumf l (constant S_ .f32 0xFF800000#32) reducesTo_S32768x64_S32768_d1 h_S_

/-- One number per row, laid along the row. -/
def along (v : Vec F S32768 .f32) : Vec F S32768x64 .f32 :=
  broadcastInDim S32768x64 ![0, 1] bcast_S32768x1_S32768x64_0_1 (broadcastInDim S32768x1 ![0] bcast_S32768_S32768x1_0 v)

/-- The exponentials of the logits, each less its row's greatest. -/
def exps (l : Vec F S32768x64 .f32) : Vec F S32768x64 .f32 :=
  Host.exp (subf l (along (maximumf (broadcastInDim S32768 ![] bcast_S_S32768 (constant S_ .f32 0xFF800000#32)) (rowMax l))))

/-- The sum of each row. -/
def rowSum (e : Vec F S32768x64 .f32) : Vec F S32768 .f32 :=
  Host.reduceAdd e (constant S_ .f32 0x00000000#32) reducesTo_S32768x64_S32768_d1 h_S_

/-- The softmax of the logits. -/
def scores (l : Vec F S32768x64 .f32) : Vec F S32768x64 .f32 := Host.divf (exps l) (along (rowSum (exps l)))

/-- The greatest score of each row, as a column. -/
def weights (s : Vec F S32768x64 .f32) : Vec F S32768x1 .f32 := broadcastInDim S32768x1 ![0] bcast_S32768_S32768x1_0 (rowMax s)

/-- Where each row's greatest score is first attained, as a column. -/
def choices (s : Vec F S32768x64 .f32) : Vec F S32768x1 .i32 :=
  broadcastInDim S32768x1 ![0] bcast_S32768_S32768x1_0 (fun j =>
    (Host.argReduce reducer_argmax_f32_i32 s (iotaInDim S32768x64 32 1) (constant S_ .f32 0xFF800000#32) (constantI S_ 32 0#32) reducesTo_S32768x64_S32768_d1 h_S_ j).2)

/-- The program's operations, in order. -/
def line : List (HloOp τ sig (Elt F)) :=
  [ StableHlo.unary main_arg1 main_v0 ((transpose S768x64 [1, 0] · transposes_S64x768_S768x64_1_0) : (⟨S64x768, .f32⟩ : BufTy).Contents (Elt F) → (⟨S768x64, .f32⟩ : BufTy).Contents (Elt F)),
    StableHlo.binary main_arg0 main_v0 main_v1 ((fun l r => Host.dotGeneral dot_S32768x768_S768x64_S32768x64_1_0_0_1_n_n none l r) : (⟨S32768x768, .f32⟩ : BufTy).Contents (Elt F) → (⟨S768x64, .f32⟩ : BufTy).Contents (Elt F) → (⟨S32768x64, .f32⟩ : BufTy).Contents (Elt F)),
    StableHlo.nullary main_cst (constant S_ .f32 0xFF800000#32),
    StableHlo.binary main_v1 main_cst main_v2 ((fun x v => Host.reduce FloatOps.maximumf x v reducesTo_S32768x64_S32768_d1 h_S_) : (⟨S32768x64, .f32⟩ : BufTy).Contents (Elt F) → (⟨S_, .f32⟩ : BufTy).Contents (Elt F) → (⟨S32768, .f32⟩ : BufTy).Contents (Elt F)),
    StableHlo.nullary main_cst_0 (constant S_ .f32 0xFF800000#32),
    StableHlo.unary main_cst_0 main_v3 (broadcastInDim S32768 ![] bcast_S_S32768 : (⟨S_, .f32⟩ : BufTy).Contents (Elt F) → (⟨S32768, .f32⟩ : BufTy).Contents (Elt F)),
    StableHlo.binary main_v3 main_v2 main_v4 (maximumf : (⟨S32768, .f32⟩ : BufTy).Contents (Elt F) → (⟨S32768, .f32⟩ : BufTy).Contents (Elt F) → (⟨S32768, .f32⟩ : BufTy).Contents (Elt F)),
    StableHlo.unary main_v4 main_v5 (broadcastInDim S32768x1 ![0] bcast_S32768_S32768x1_0 : (⟨S32768, .f32⟩ : BufTy).Contents (Elt F) → (⟨S32768x1, .f32⟩ : BufTy).Contents (Elt F)),
    StableHlo.unary main_v5 main_v6 (broadcastInDim S32768x64 ![0, 1] bcast_S32768x1_S32768x64_0_1 : (⟨S32768x1, .f32⟩ : BufTy).Contents (Elt F) → (⟨S32768x64, .f32⟩ : BufTy).Contents (Elt F)),
    StableHlo.binary main_v1 main_v6 main_v7 (subf : (⟨S32768x64, .f32⟩ : BufTy).Contents (Elt F) → (⟨S32768x64, .f32⟩ : BufTy).Contents (Elt F) → (⟨S32768x64, .f32⟩ : BufTy).Contents (Elt F)),
    StableHlo.unary main_v7 main_v8 (Host.exp : (⟨S32768x64, .f32⟩ : BufTy).Contents (Elt F) → (⟨S32768x64, .f32⟩ : BufTy).Contents (Elt F)),
    StableHlo.nullary main_cst_1 (constant S_ .f32 0x00000000#32),
    StableHlo.binary main_v8 main_cst_1 main_v9 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    StableHlo.unary main_v9 main_v10 (broadcastInDim S32768x1 ![0] bcast_S32768_S32768x1_0 : (⟨S32768, .f32⟩ : BufTy).Contents (Elt F) → (⟨S32768x1, .f32⟩ : BufTy).Contents (Elt F)),
    StableHlo.unary main_v10 main_v11 (broadcastInDim S32768x64 ![0, 1] bcast_S32768x1_S32768x64_0_1 : (⟨S32768x1, .f32⟩ : BufTy).Contents (Elt F) → (⟨S32768x64, .f32⟩ : BufTy).Contents (Elt F)),
    StableHlo.binary main_v8 main_v11 main_v12 (Host.divf : (⟨S32768x64, .f32⟩ : BufTy).Contents (Elt F) → (⟨S32768x64, .f32⟩ : BufTy).Contents (Elt F) → (⟨S32768x64, .f32⟩ : BufTy).Contents (Elt F)),
    StableHlo.nullary main_cst_2 (constant S_ .f32 0xFF800000#32),
    StableHlo.binary main_v12 main_cst_2 main_v13 ((fun x v => Host.reduce FloatOps.maximumf x v reducesTo_S32768x64_S32768_d1 h_S_) : (⟨S32768x64, .f32⟩ : BufTy).Contents (Elt F) → (⟨S_, .f32⟩ : BufTy).Contents (Elt F) → (⟨S32768, .f32⟩ : BufTy).Contents (Elt F)),
    StableHlo.unary main_v13 main_v14 (broadcastInDim S32768x1 ![0] bcast_S32768_S32768x1_0 : (⟨S32768, .f32⟩ : BufTy).Contents (Elt F) → (⟨S32768x1, .f32⟩ : BufTy).Contents (Elt F)),
    StableHlo.nullary main_call0_v0 (iotaInDim S32768x64 32 1),
    StableHlo.nullary main_call0_cst (constant S_ .f32 0xFF800000#32),
    StableHlo.nullary main_call0_c (constantI S_ 32 0#32),
    StableHlo.quaternary main_v12 main_call0_v0 main_call0_cst main_call0_c main_call0_v1_0 (fun x y u v j => (Host.argReduce reducer_argmax_f32_i32 x y u v reducesTo_S32768x64_S32768_d1 h_S_ j).1),
    StableHlo.quaternary main_v12 main_call0_v0 main_call0_cst main_call0_c main_v15 (fun x y u v j => (Host.argReduce reducer_argmax_f32_i32 x y u v reducesTo_S32768x64_S32768_d1 h_S_ j).2),
    StableHlo.unary main_v15 main_v16 (broadcastInDim S32768x1 ![0] bcast_S32768_S32768x1_0 : (⟨S32768, .i32⟩ : BufTy).Contents (Elt F) → (⟨S32768x1, .i32⟩ : BufTy).Contents (Elt F)) ]

theorem main_line (d : Dev nD) : main (F := F) d = seq line := rfl

theorem line_bufs : (line (F := F)).Forall fun op => op.bufs ⊆ tcRefs τ sig := by
  simp only [line, List.Forall, nullary_bufs_sub, unary_bufs_sub, binary_bufs_sub, quaternary_bufs_sub, and_self]

variable (V : Valuation τ sig (Elt F))

theorem line_arg0 : after (line (F := F)) V (Proc.devRef .tc main_arg0) = V (Proc.devRef .tc main_arg0) := by
  unfold line; after_results
theorem line_arg1 : after (line (F := F)) V (Proc.devRef .tc main_arg1) = V (Proc.devRef .tc main_arg1) := by
  unfold line; after_results
theorem line_scores : after (line (F := F)) V (Proc.devRef .tc main_v12) = scores (logits (V (Proc.devRef .tc main_arg0)) (V (Proc.devRef .tc main_arg1))) := by
  unfold line; after_results <;> rfl
theorem line_weights : after (line (F := F)) V (Proc.devRef .tc main_v14) = weights (scores (logits (V (Proc.devRef .tc main_arg0)) (V (Proc.devRef .tc main_arg1)))) := by
  unfold line; after_results <;> rfl
theorem line_choices : after (line (F := F)) V (Proc.devRef .tc main_v16) = choices (scores (logits (V (Proc.devRef .tc main_arg0)) (V (Proc.devRef .tc main_arg1)))) := by
  unfold line; after_results <;> rfl

/-- The reference runs; its results are these functions of its arguments, which end as they began. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v14) = weights (scores (logits (m ((c.tc : Thread nD τ).loc main_arg0)) (m ((c.tc : Thread nD τ).loc main_arg1))))
      ∧ r.2.mem ((c.tc : Thread nD τ).loc main_v16) = choices (scores (logits (m ((c.tc : Thread nD τ).loc main_arg0)) (m ((c.tc : Thread nD τ).loc main_arg1))))
      ∧ r.2.mem ((c.tc : Thread nD τ).loc main_v12) = scores (logits (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  θ_run_mono (run_seq (by decide) (by decide) defs main (fun _ => line) main_line (fun _ => line_bufs) m ρ) fun r h =>
    ⟨fun c => ⟨(h c main_v14).trans (line_weights _), (h c main_v16).trans (line_choices _), (h c main_v12).trans (line_scores _),
      (h c main_arg0).trans (line_arg0 _), (h c main_arg1).trans (line_arg1 _)⟩, sem_eq_zero_of_no_sems (by decide) r.2⟩

end Cert.ReferenceIdeal.Router
-- ==== Proof.Router.Names.lean ====
/- What the kernel's transfers move, by name: the six parts of each of the three scratch slots, the six columns of each of
   the eight row blocks of the activations, and the three semaphores, one per slot. Every memref the kernel builds on its
   way to a transfer is shown equal to one of these, and the parts and the columns are shown to be disjoint boxes that
   fill the slot and the array. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Batch
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open Cert.KernelIdeal.Gen

/-- The scratch, the activations: the two buffers the kernel copies between, whole. -/
abbrev ring : Memref sig .tc .vmem S3x4096x768 .f32 := Memref.whole cc0_scratch0
abbrev acts : Memref sig .tc .hbm S32768x768 .f32 := Memref.whole main_arg0

theorem part_inb (s : Fin 3) (w : Fin 6) (a : Fin 3) : (![s.val, 0, 128 * w.val] : Fin 3 → ℕ) a + S1x4096x128.size a ≤ S3x4096x768.size a := by
  have := s.isLt; have := w.isLt; fin_cases a <;> simp <;> omega
theorem column_inb (b : Fin 8) (w : Fin 6) (a : Fin 2) : (![4096 * b.val, 128 * w.val] : Fin 2 → ℕ) a + S4096x128.size a ≤ S32768x768.size a := by
  have := b.isLt; have := w.isLt; fin_cases a <;> simp <;> omega
theorem cell_inb (s : Fin 3) (a : Fin 1) : (![s.val] : Fin 1 → ℕ) a + S1.size a ≤ S3.size a := by
  have := s.isLt; fin_cases a; simp; omega
theorem slot_inb (s : Fin 3) (a : Fin 3) : (![s.val, 0, 0] : Fin 3 → ℕ) a + S1x4096x768.size a ≤ S3x4096x768.size a := by
  have := s.isLt; fin_cases a <;> simp; omega

/-- Part `w` of slot `s`: lanes `128 w` to `128 w + 127`. -/
def part (s : Fin 3) (w : Fin 6) : Memref sig .tc .vmem S4096x128 .f32 :=
  (ring.slice (Rect.unit (s := S3x4096x768) ![s.val, 0, 128 * w.val] S1x4096x128.size (part_inb s w)) (fun _ => rfl)).squeeze S4096x128 squeezes_S1x4096x128_S4096x128
/-- Column `w` of row block `b` of the activations. -/
def column (b : Fin 8) (w : Fin 6) : Memref sig .tc .hbm S4096x128 .f32 :=
  acts.slice (Rect.unit (s := S32768x768) ![4096 * b.val, 128 * w.val] S4096x128.size (column_inb b w)) (fun _ => rfl)
/-- The semaphore that counts the arrivals in slot `s`, and its place in the pool. -/
def cell (s : Fin 3) : DmaSems sig S_ := (cc0_scratch1.slice (Rect.unit (s := S3) ![s.val] S1.size (cell_inb s))).squeeze S_ squeezes_S1_S_
abbrev cellAt (s : Fin 3) : SemLoc sig := SemLoc.dma (cell s).sem

theorem cellAt_0 : cellAt 0 = SemLoc.dma 7 := by decide
theorem cellAt_1 : cellAt 1 = SemLoc.dma 8 := by decide
theorem cellAt_2 : cellAt 2 = SemLoc.dma 9 := by decide

/-! ### The kernel's own spellings -/

section Spelling
variable {off3 : Fin 3 → ℕ} {off2 : Fin 2 → ℕ} {off1 : Fin 1 → ℕ} {s : Fin 3} {b : Fin 8} {w : Fin 6}

/-- A slice of the scratch at a part's offsets is that part, -/
theorem part_at (p : ∀ a, off3 a + S1x4096x128.size a ≤ S3x4096x768.size a) (e : off3 = ![s.val, 0, 128 * w.val]) :
    (ring.slice (Rect.unit (s := S3x4096x768) off3 S1x4096x128.size p) (fun _ => rfl)).squeeze S4096x128 squeezes_S1x4096x128_S4096x128 = part s w := by
  subst e; rfl
/-- also with the extents written out. -/
theorem part_at' (p : ∀ a, off3 a + (![1, 4096, 128] : Fin 3 → ℕ) a ≤ S3x4096x768.size a) (e : off3 = ![s.val, 0, 128 * w.val]) :
    (ring.slice (Rect.unit (s := S3x4096x768) off3 ![1, 4096, 128] p) (fun _ => rfl)).squeeze S4096x128 squeezes_S1x4096x128_S4096x128 = part s w := by
  subst e; rfl
/-- A slice of the activations at a column's offsets is that column, -/
theorem column_at (p : ∀ a, off2 a + S4096x128.size a ≤ S32768x768.size a) (e : off2 = ![4096 * b.val, 128 * w.val]) :
    acts.slice (Rect.unit (s := S32768x768) off2 S4096x128.size p) (fun _ => rfl) = column b w := by
  subst e; rfl
theorem column_at' (p : ∀ a, off2 a + (![4096, 128] : Fin 2 → ℕ) a ≤ S32768x768.size a) (e : off2 = ![4096 * b.val, 128 * w.val]) :
    acts.slice (Rect.unit (s := S32768x768) off2 ![4096, 128] p) (fun _ => rfl) = column b w := by
  subst e; rfl
/-- and the semaphore at a slot's number is the slot's. -/
theorem cell_at (p : ∀ a, off1 a + S1.size a ≤ S3.size a) (e : off1 = ![s.val]) :
    (cc0_scratch1.slice (Rect.unit (s := S3) off1 S1.size p)).squeeze S_ squeezes_S1_S_ = cell s := by
  subst e; rfl
theorem cell_at' (p : ∀ a, off1 a + (![1] : Fin 1 → ℕ) a ≤ S3.size a) (e : off1 = ![s.val]) :
    (cc0_scratch1.slice (Rect.unit (s := S3) off1 ![1] p)).squeeze S_ squeezes_S1_S_ = cell s := by
  subst e; rfl
end Spelling

/-! ### Which slot, which block, at a grid point -/

instance : NeZero grid0.N := ⟨by rw [N_0]; decide⟩

/-- The slot point `t` reads; the block it reads; the block it starts. -/
abbrev slotOf (t : Fin cfg0.N) : Fin 3 := Fin.ofNat 3 t.val
abbrev blockOf (t : Fin cfg0.N) : Fin 8 := Fin.ofNat 8 t.val
abbrev aheadOf (t : Fin cfg0.N) : Fin 8 := Fin.ofNat 8 (t.val + 3)

/-- The kernel starts its first three blocks at the first point, -/
abbrev Opens (i : grid0.Coords) : Prop := (Scalar.cmpi .ne (Scalar.extui (Scalar.cmpi .eq (BitVec.ofNat 32 (i 0).val) 0#32)) 0#32) = 1#1
theorem opens_iff : ∀ t : Fin cfg0.N, Opens (grid0.coords t) ↔ t.val = 0 :=
  (by decide +kernel : ∀ t : Fin grid0.N, Opens (grid0.coords t) ↔ t.val = 0)
/-- and at each point that has a third block after it, that block. -/
abbrev Feeds (i : grid0.Coords) : Prop := k0_cond2 i = 1#1
theorem feeds_iff : ∀ t : Fin cfg0.N, Feeds (grid0.coords t) ↔ t.val + 3 < 8 :=
  (by decide +kernel : ∀ t : Fin grid0.N, Feeds (grid0.coords t) ↔ t.val + 3 < 8)

set_option synthInstance.maxSize 4096 in
/-- The offsets of the waits: the slot's parts, and its semaphore. -/
theorem wait_offsets : ∀ t : Fin cfg0.N,
    k0_off1 (grid0.coords t) = ![(slotOf t).val] ∧ k0_off2 (grid0.coords t) = ![(slotOf t).val, 0, 128 * (0 : Fin 6).val] ∧ k0_off4 (grid0.coords t) = ![(slotOf t).val, 0, 128 * (1 : Fin 6).val]
      ∧ k0_off6 (grid0.coords t) = ![(slotOf t).val, 0, 128 * (2 : Fin 6).val] ∧ k0_off8 (grid0.coords t) = ![(slotOf t).val, 0, 128 * (3 : Fin 6).val]
      ∧ k0_off10 (grid0.coords t) = ![(slotOf t).val, 0, 128 * (4 : Fin 6).val] ∧ k0_off12 (grid0.coords t) = ![(slotOf t).val, 0, 128 * (5 : Fin 6).val]
      ∧ k0_off14 (grid0.coords t) = ![(slotOf t).val, 0, 0] :=
  (by decide +kernel : ∀ t : Fin grid0.N,
    k0_off1 (grid0.coords t) = ![(slotOf t).val] ∧ k0_off2 (grid0.coords t) = ![(slotOf t).val, 0, 128 * (0 : Fin 6).val] ∧ k0_off4 (grid0.coords t) = ![(slotOf t).val, 0, 128 * (1 : Fin 6).val]
      ∧ k0_off6 (grid0.coords t) = ![(slotOf t).val, 0, 128 * (2 : Fin 6).val] ∧ k0_off8 (grid0.coords t) = ![(slotOf t).val, 0, 128 * (3 : Fin 6).val]
      ∧ k0_off10 (grid0.coords t) = ![(slotOf t).val, 0, 128 * (4 : Fin 6).val] ∧ k0_off12 (grid0.coords t) = ![(slotOf t).val, 0, 128 * (5 : Fin 6).val]
      ∧ k0_off14 (grid0.coords t) = ![(slotOf t).val, 0, 0])
set_option synthInstance.maxSize 4096 in
/-- The offsets of the sources the waits name: the columns of the block the point reads. -/
theorem wait_sources : ∀ t : Fin cfg0.N,
    k0_off3 (grid0.coords t) = ![4096 * (blockOf t).val, 128 * (0 : Fin 6).val] ∧ k0_off5 (grid0.coords t) = ![4096 * (blockOf t).val, 128 * (1 : Fin 6).val]
      ∧ k0_off7 (grid0.coords t) = ![4096 * (blockOf t).val, 128 * (2 : Fin 6).val] ∧ k0_off9 (grid0.coords t) = ![4096 * (blockOf t).val, 128 * (3 : Fin 6).val]
      ∧ k0_off11 (grid0.coords t) = ![4096 * (blockOf t).val, 128 * (4 : Fin 6).val] ∧ k0_off13 (grid0.coords t) = ![4096 * (blockOf t).val, 128 * (5 : Fin 6).val] :=
  (by decide +kernel : ∀ t : Fin grid0.N,
    k0_off3 (grid0.coords t) = ![4096 * (blockOf t).val, 128 * (0 : Fin 6).val] ∧ k0_off5 (grid0.coords t) = ![4096 * (blockOf t).val, 128 * (1 : Fin 6).val]
      ∧ k0_off7 (grid0.coords t) = ![4096 * (blockOf t).val, 128 * (2 : Fin 6).val] ∧ k0_off9 (grid0.coords t) = ![4096 * (blockOf t).val, 128 * (3 : Fin 6).val]
      ∧ k0_off11 (grid0.coords t) = ![4096 * (blockOf t).val, 128 * (4 : Fin 6).val] ∧ k0_off13 (grid0.coords t) = ![4096 * (blockOf t).val, 128 * (5 : Fin 6).val])
set_option synthInstance.maxSize 4096 in
/-- The offsets of the transfers a point starts: into the slot it has just read, -/
theorem start_offsets : ∀ t : Fin cfg0.N,
    k0_off15 (grid0.coords t) = ![(slotOf t).val] ∧ k0_off16 (grid0.coords t) = ![(slotOf t).val, 0, 128 * (0 : Fin 6).val] ∧ k0_off18 (grid0.coords t) = ![(slotOf t).val, 0, 128 * (1 : Fin 6).val]
      ∧ k0_off20 (grid0.coords t) = ![(slotOf t).val, 0, 128 * (2 : Fin 6).val] ∧ k0_off22 (grid0.coords t) = ![(slotOf t).val, 0, 128 * (3 : Fin 6).val]
      ∧ k0_off24 (grid0.coords t) = ![(slotOf t).val, 0, 128 * (4 : Fin 6).val] ∧ k0_off26 (grid0.coords t) = ![(slotOf t).val, 0, 128 * (5 : Fin 6).val] :=
  (by decide +kernel : ∀ t : Fin grid0.N,
    k0_off15 (grid0.coords t) = ![(slotOf t).val] ∧ k0_off16 (grid0.coords t) = ![(slotOf t).val, 0, 128 * (0 : Fin 6).val] ∧ k0_off18 (grid0.coords t) = ![(slotOf t).val, 0, 128 * (1 : Fin 6).val]
      ∧ k0_off20 (grid0.coords t) = ![(slotOf t).val, 0, 128 * (2 : Fin 6).val] ∧ k0_off22 (grid0.coords t) = ![(slotOf t).val, 0, 128 * (3 : Fin 6).val]
      ∧ k0_off24 (grid0.coords t) = ![(slotOf t).val, 0, 128 * (4 : Fin 6).val] ∧ k0_off26 (grid0.coords t) = ![(slotOf t).val, 0, 128 * (5 : Fin 6).val])
set_option synthInstance.maxSize 4096 in
/-- from the block three ahead. -/
theorem start_sources : ∀ t : Fin cfg0.N, t.val + 3 < 8 →
    k0_off17 (grid0.coords t) = ![4096 * (aheadOf t).val, 128 * (0 : Fin 6).val] ∧ k0_off19 (grid0.coords t) = ![4096 * (aheadOf t).val, 128 * (1 : Fin 6).val]
      ∧ k0_off21 (grid0.coords t) = ![4096 * (aheadOf t).val, 128 * (2 : Fin 6).val] ∧ k0_off23 (grid0.coords t) = ![4096 * (aheadOf t).val, 128 * (3 : Fin 6).val]
      ∧ k0_off25 (grid0.coords t) = ![4096 * (aheadOf t).val, 128 * (4 : Fin 6).val] ∧ k0_off27 (grid0.coords t) = ![4096 * (aheadOf t).val, 128 * (5 : Fin 6).val] :=
  (by decide +kernel : ∀ t : Fin grid0.N, t.val + 3 < 8 →
    k0_off17 (grid0.coords t) = ![4096 * (aheadOf t).val, 128 * (0 : Fin 6).val] ∧ k0_off19 (grid0.coords t) = ![4096 * (aheadOf t).val, 128 * (1 : Fin 6).val]
      ∧ k0_off21 (grid0.coords t) = ![4096 * (aheadOf t).val, 128 * (2 : Fin 6).val] ∧ k0_off23 (grid0.coords t) = ![4096 * (aheadOf t).val, 128 * (3 : Fin 6).val]
      ∧ k0_off25 (grid0.coords t) = ![4096 * (aheadOf t).val, 128 * (4 : Fin 6).val] ∧ k0_off27 (grid0.coords t) = ![4096 * (aheadOf t).val, 128 * (5 : Fin 6).val])

/-! ### The boxes -/

/-- The elements of a part, of a column, of a slot. -/
abbrev partBox (i : Fin 3 × Fin 6) : Finset S3x4096x768.Idx := (Rect.unit (s := S3x4096x768) ![i.1.val, 0, 128 * i.2.val] S1x4096x128.size (part_inb i.1 i.2)).set
abbrev columnBox (i : Fin 8 × Fin 6) : Finset S32768x768.Idx := (Rect.unit (s := S32768x768) ![4096 * i.1.val, 128 * i.2.val] S4096x128.size (column_inb i.1 i.2)).set
abbrev slotBox (s : Fin 3) : Finset S3x4096x768.Idx := (Rect.unit (s := S3x4096x768) ![s.val, 0, 0] S1x4096x768.size (slot_inb s)).set

theorem part_set (s : Fin 3) (w : Fin 6) : (part s w).view.set = partBox (s, w) := by
  simp only [part, Memref.view_squeeze, View.set_reshape]; exact View.set_slice_whole _ _
theorem column_set (b : Fin 8) (w : Fin 6) : (column b w).view.set = columnBox (b, w) := View.set_slice_whole _ _

theorem mem_partBox {i : Fin 3 × Fin 6} {x : S3x4096x768.Idx} : x ∈ partBox i ↔ (x 0).val = i.1.val ∧ (x 2).val / 128 = i.2.val := by
  rw [Rect.mem_set_unit]
  have h1 := (x 1).isLt
  constructor
  · intro h; have h0 := h 0; have h2 := h 2; simp at h0 h2; omega
  · rintro ⟨h0, h2⟩ a; fin_cases a <;> simp at h1 ⊢ <;> omega
theorem mem_columnBox {i : Fin 8 × Fin 6} {x : S32768x768.Idx} : x ∈ columnBox i ↔ (x 0).val / 4096 = i.1.val ∧ (x 1).val / 128 = i.2.val := by
  rw [Rect.mem_set_unit]
  constructor
  · intro h; have h0 := h 0; have h1 := h 1; simp at h0 h1; omega
  · rintro ⟨h0, h1⟩ a; fin_cases a <;> simp <;> omega
theorem mem_slotBox {s : Fin 3} {x : S3x4096x768.Idx} : x ∈ slotBox s ↔ (x 0).val = s.val := by
  rw [Rect.mem_set_unit]
  have h1 := (x 1).isLt; have h2 := (x 2).isLt
  constructor
  · intro h; have h0 := h 0; simp at h0; omega
  · intro h a; fin_cases a <;> simp at h1 h2 ⊢ <;> omega

theorem partBox_disjoint (i j : Fin 3 × Fin 6) (h : i ≠ j) : Disjoint (partBox i) (partBox j) :=
  Finset.disjoint_left.mpr fun x hi hj => h (by
    rw [mem_partBox] at hi hj
    exact Prod.ext (Fin.ext (hi.1.symm.trans hj.1)) (Fin.ext (hi.2.symm.trans hj.2)))
theorem columnBox_disjoint (i j : Fin 8 × Fin 6) (h : i ≠ j) : Disjoint (columnBox i) (columnBox j) :=
  Finset.disjoint_left.mpr fun x hi hj => h (by
    rw [mem_columnBox] at hi hj
    exact Prod.ext (Fin.ext (hi.1.symm.trans hj.1)) (Fin.ext (hi.2.symm.trans hj.2)))
theorem slotBox_disjoint (s r : Fin 3) (h : s ≠ r) : Disjoint (slotBox s) (slotBox r) :=
  Finset.disjoint_left.mpr fun x hi hj => h (by rw [mem_slotBox] at hi hj; exact Fin.ext (hi.symm.trans hj))

/-- The columns fill the activations, the slots the scratch, and a slot's parts the slot. -/
theorem columnBox_cover : Finset.univ.biUnion columnBox = Finset.univ := by
  ext x
  simp only [Finset.mem_biUnion, Finset.mem_univ, true_and, iff_true]
  have h0 : (x 0).val < 32768 := (x 0).isLt
  have h1 : (x 1).val < 768 := (x 1).isLt
  exact ⟨(⟨(x 0).val / 4096, by omega⟩, ⟨(x 1).val / 128, by omega⟩), mem_columnBox.mpr ⟨rfl, rfl⟩⟩
theorem slotBox_cover : Finset.univ.biUnion slotBox = Finset.univ := by
  ext x
  simp only [Finset.mem_biUnion, Finset.mem_univ, true_and, iff_true]
  exact ⟨⟨(x 0).val, (x 0).isLt⟩, mem_slotBox.mpr rfl⟩
theorem partBox_cover (s : Fin 3) : Finset.univ.biUnion (fun w => partBox (s, w)) = slotBox s := by
  ext x
  simp only [Finset.mem_biUnion, Finset.mem_univ, true_and, mem_partBox, mem_slotBox]
  have h2 : (x 2).val < 768 := (x 2).isLt
  exact ⟨fun ⟨_, h, _⟩ => h, fun h => ⟨⟨(x 2).val / 128, by omega⟩, h, rfl⟩⟩

end Cert.KernelIdeal.Router
-- ==== Proof.Router.Flow.lean ====
/- What is held between two grid points. Block `b` of the activations travels through slot `b mod 3`. Before point `p ≥ 1`
   blocks `p`, `p + 1`, `p + 2` are on their way (those of them that exist); every other block is at home, all of it, and a
   slot no block is on its way to is free. Before the first point every block is at home and every slot free. -/
module

public import proofs.«01_k».proof.Proof.Router.Names
public import Idealize.ShloMosaic.Lib.WholeRead

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The contents of the activations' buffer, and of the scratch. -/
abbrev Acts (F : FTy → Type) (c : Dev nD) : Type := Buf (Elt F) (acts.view.loc (c : Thread nD τ))
abbrev Scratch (F : FTy → Type) (c : Dev nD) : Type := Buf (Elt F) (ring.view.loc (c : Thread nD τ))

section Pieces
variable (c : Dev nD) (x : Acts F c)

/-- Part `w` of slot `s`, held at the contents `e`; all six parts of the slot. -/
abbrev partAt (s : Fin 3) (w : Fin 6) (e : Scratch F c) : sProp 𝕄 := (part s w).view.loc (c : Thread nD τ) ↦[(part s w).view.set]{fullShare} e
abbrev partsAt (s : Fin 3) (e : Scratch F c) : sProp 𝕄 :=
  iprop(partAt c s 0 e ∗ partAt c s 1 e ∗ partAt c s 2 e ∗ partAt c s 3 e ∗ partAt c s 4 e ∗ partAt c s 5 e)
/-- Column `w` of block `b`, held at the activations; all six columns of the block. -/
abbrev columnAt (b : Fin 8) (w : Fin 6) : sProp 𝕄 := (column b w).view.loc (c : Thread nD τ) ↦[(column b w).view.set]{fullShare} x
abbrev home (b : Fin 8) : sProp 𝕄 :=
  iprop(columnAt c x b 0 ∗ columnAt c x b 1 ∗ columnAt c x b 2 ∗ columnAt c x b 3 ∗ columnAt c x b 4 ∗ columnAt c x b 5)
/-- Part `w` of slot `s` when block `b` has arrived in it. -/
abbrev landed (s : Fin 3) (b : Fin 8) (w : Fin 6) : Scratch F c :=
  (part s w).view.writes (Elt F) (part s w).view.junk [⟨Rect.whole S4096x128, ReadAs.same.apply ((column b w).view.read (Elt F) x)⟩]
/-- What each of a block's six transfers brings: its part with the block arrived in it, and the column it was copied from. -/
abbrev brings (s : Fin 3) (b : Fin 8) (w : Fin 6) : sProp 𝕄 := iprop(partAt c s w (landed c x s b w) ∗ columnAt c x b w)
/-- What one of them adds to its semaphore. -/
abbrev amount : ℕ := (part 0 0).view.amount (cellAt 0)
/-- Block `b` on its way to slot `s`: its six transfers started on the slot's semaphore, nothing waited for yet. -/
abbrev flight (s : Fin 3) (b : Fin 8) : sProp 𝕄 :=
  Transfers.Batch countersEmb (c : Thread nD τ) (cellAt s) default amount (brings c x s b) 6 0
/-- A slot free: its semaphore at zero, its elements at some contents. -/
abbrev cellZero (s : Fin 3) : sProp 𝕄 := semVal ((c : Thread nD τ), cellAt s) 0
abbrev free (s : Fin 3) : sProp 𝕄 := iprop(cellZero (F := F) c s ∗ ∃ e, partsAt (F := F) c s e)

/-- A points-to can be put into an invariant; stated for every program, so that using it looks into none. -/
theorem pointsTo_storable {n' : Nat} {τ' : Topo} {sg : RefSig} {Ix' : Type} [DecidableEq Ix'] {Val' : EltTy → Type} {Name' : Type} [DecidableEq Name']
    {U' : Type} [URA U'] {Lvl' : Type} (ℓ : Loc n' τ' sg) (I : Finset (Idx ℓ)) (q : PosShare TreeShare) (f : Buf Val' ℓ) :
    Storable (upEmb : UEmb _ (MT n' τ' sg Ix' Val' Name' U' Lvl')) (ℓ ↦[I]{q} f) := inferInstance
theorem brings_storable (s : Fin 3) (b : Fin 8) (w : Fin 6) : Storable (upEmb : UEmb _ 𝕄) (brings c x s b w) :=
  @Storable.sep _ _ _ _ _ _ _ _ (pointsTo_storable _ _ _ _) (pointsTo_storable _ _ _ _)

/-! ### Slots and blocks as boxes -/

theorem sep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem part_eq (s : Fin 3) (w : Fin 6) (e : Scratch F c) : (ring.view.loc (c : Thread nD τ) ↦[partBox (s, w)]{fullShare} e : sProp 𝕄) = partAt c s w e := by
  unfold partAt; rw [part_set]; rfl
theorem column_eq (b : Fin 8) (w : Fin 6) : (acts.view.loc (c : Thread nD τ) ↦[columnBox (b, w)]{fullShare} x : sProp 𝕄) = columnAt c x b w := by
  unfold columnAt; rw [column_set]; rfl

/-- A slot's elements at some contents are its six parts at them; -/
theorem slot_parts (s : Fin 3) (e : Scratch F c) : (ring.view.loc (c : Thread nD τ) ↦[slotBox s]{fullShare} e : sProp 𝕄) = partsAt c s e :=
  (Ring.pointsTo_sub_blocks (ℓ := ring.view.loc (c : Thread nD τ)) (fun w : Fin 6 => partBox (s, w))
    (fun w v h => partBox_disjoint (s, w) (s, v) fun e => h (Prod.ext_iff.mp e).2) (slotBox s) (partBox_cover s) e).trans
    ((bigSep_congr fun w _ => part_eq c s w e).trans (sep_six _))
/-- the activations are their blocks, each its six columns; -/
theorem acts_blocks : (acts.view.loc (c : Thread nD τ) ↦{fullShare} x : sProp 𝕄) = bigSep Finset.univ (home c x) :=
  (Ring.pointsTo_blocks (ℓ := acts.view.loc (c : Thread nD τ)) columnBox columnBox_disjoint columnBox_cover x).trans
    ((bigSep_univ_prod _).trans (bigSep_congr fun b _ => (bigSep_congr fun w _ => column_eq c x b w).trans (sep_six _)))
/-- the scratch at some contents is its slots at them, -/
theorem ring_slots (e : Scratch F c) : (ring.view.loc (c : Thread nD τ) ↦{fullShare} e : sProp 𝕄) = bigSep Finset.univ (fun s => partsAt c s e) :=
  (Ring.pointsTo_blocks (ℓ := ring.view.loc (c : Thread nD τ)) slotBox slotBox_disjoint slotBox_cover e).trans
    (bigSep_congr fun s _ => slot_parts c s e)
/-- and slots at contents of their own are the scratch at some contents. -/
theorem slots_ring (e₀ : Scratch F c) : bigSep Finset.univ (fun s => iprop(∃ e, partsAt c s e)) ⊢ (iprop(∃ e, ring.view.loc (c : Thread nD τ) ↦{fullShare} e) : sProp 𝕄) := by
  simp only [← slot_parts]
  exact Ring.pointsTo_blocks_join_exists (ℓ := ring.view.loc (c : Thread nD τ)) slotBox slotBox_disjoint slotBox_cover e₀

/-- The contents of slot `s` when all of block `b` has arrived: on each part, what arrived there. -/
def full (s : Fin 3) (b : Fin 8) : Scratch F c := fun y => landed c x s b (Fin.ofNat 6 (((show S3x4096x768.Idx from y) 2).val / 128)) y

theorem full_on (s : Fin 3) (b : Fin 8) (w : Fin 6) (y : S3x4096x768.Idx) (h : y ∈ partBox (s, w)) : landed c x s b w y = full c x s b y := by
  have e : w = Fin.ofNat 6 ((y 2).val / 128) := Fin.ext (by
    have h := (mem_partBox.mp h).2; have := w.isLt
    show _ = _ % 6; rw [h]; exact (Nat.mod_eq_of_lt this).symm)
  unfold full
  generalize landed c x s b = g
  exact congrArg (fun v => g v y) e
theorem full_part (s : Fin 3) (b : Fin 8) (w : Fin 6) : (partAt c s w (landed c x s b w) : sProp 𝕄) = partAt c s w (full c x s b) := by
  rw [← part_eq, ← part_eq]
  exact pointsTo_congr fun y hy => full_on c x s b w y hy
/-- The six parts of a slot, each with what arrived there, are the slot holding the block. -/
theorem full_slot (s : Fin 3) (b : Fin 8) :
    (iprop(partAt c s 0 (landed c x s b 0) ∗ partAt c s 1 (landed c x s b 1) ∗ partAt c s 2 (landed c x s b 2) ∗ partAt c s 3 (landed c x s b 3)
      ∗ partAt c s 4 (landed c x s b 4) ∗ partAt c s 5 (landed c x s b 5)) : sProp 𝕄) = ring.view.loc (c : Thread nD τ) ↦[slotBox s]{fullShare} full c x s b := by
  rw [slot_parts, full_part, full_part, full_part, full_part, full_part, full_part]

/-- The elements the kernel's load of a slot reads at a point: the slot's. -/
abbrev loadBox (t : Fin cfg0.N) : Finset S3x4096x768.Idx :=
  ring.view.setOn (Rect.unit (s := S3x4096x768) (k0_off14 (grid0.coords t)) S1x4096x768.size (k0_off14_inb (grid0.coords t))).set
theorem loadBox_eq (t : Fin cfg0.N) : loadBox t = slotBox (slotOf t) := by
  have h : ∀ (off : Fin 3 → ℕ) (p : ∀ a, off a + S1x4096x768.size a ≤ S3x4096x768.size a), off = ![(slotOf t).val, 0, 0] →
      ring.view.setOn (Rect.unit (s := S3x4096x768) off S1x4096x768.size p).set = slotBox (slotOf t) := by
    rintro _ p rfl; exact Finset.map_refl
  exact h _ _ (wait_offsets t).2.2.2.2.2.2.2
/-- The block point `t` reads, as it reads it: the slot's box of the scratch once the block has arrived. -/
abbrev rows (t : Fin cfg0.N) : Vec F S1x4096x768 .f32 :=
  ring.view.readAt (Elt F) (Rect.unit (s := S3x4096x768) (k0_off14 (grid0.coords t)) S1x4096x768.size (k0_off14_inb (grid0.coords t))).toLoadRect (full c x (slotOf t) (blockOf t))
/-- So the arrived parts can be loaded in one piece, -/
theorem arrived (t : Fin cfg0.N) (b : Fin 8) :
    (iprop(partAt c (slotOf t) 0 (landed c x (slotOf t) b 0) ∗ partAt c (slotOf t) 1 (landed c x (slotOf t) b 1) ∗ partAt c (slotOf t) 2 (landed c x (slotOf t) b 2)
      ∗ partAt c (slotOf t) 3 (landed c x (slotOf t) b 3) ∗ partAt c (slotOf t) 4 (landed c x (slotOf t) b 4) ∗ partAt c (slotOf t) 5 (landed c x (slotOf t) b 5)) : sProp 𝕄)
      ⊢ ring.view.loc (c : Thread nD τ) ↦[ring.view.setOn (Rect.unit (s := S3x4096x768) (k0_off14 (grid0.coords t)) S1x4096x768.size (k0_off14_inb (grid0.coords t))).set]{fullShare} full c x (slotOf t) b := by
  rw [show ring.view.setOn (Rect.unit (s := S3x4096x768) (k0_off14 (grid0.coords t)) S1x4096x768.size (k0_off14_inb (grid0.coords t))).set = slotBox (slotOf t) from loadBox_eq t]; exact Entails.of_eq (full_slot c x (slotOf t) b)
/-- and are the slot's parts again after the load. -/
theorem reread (t : Fin cfg0.N) (e : Scratch F c) : (ring.view.loc (c : Thread nD τ) ↦[ring.view.setOn (Rect.unit (s := S3x4096x768) (k0_off14 (grid0.coords t)) S1x4096x768.size (k0_off14_inb (grid0.coords t))).set]{fullShare} e : sProp 𝕄) ⊢ partsAt c (slotOf t) e := by
  rw [show ring.view.setOn (Rect.unit (s := S3x4096x768) (k0_off14 (grid0.coords t)) S1x4096x768.size (k0_off14_inb (grid0.coords t))).set = slotBox (slotOf t) from loadBox_eq t]; exact Entails.of_eq (slot_parts c (slotOf t) e)

/-! ### Whole stores and whole loads -/

theorem zero2 : (![0, 0] : Fin 2 → ℕ) = fun _ => 0 := by decide
/-- A buffer after one store over all of it reads what was stored, -/
theorem stored {S : Shape} {e : EltTy} (M : Memref sig .tc .vmem S e) (f : M.view.ty.Contents (Elt F)) (v : S.Idx → Elt F e) {off : Fin S.rank → ℕ} (h : off = fun _ => 0)
    (p : ∀ a, off a + S.size a ≤ S.size a) : M.view.read (Elt F) (M.view.writes (Elt F) f [⟨Rect.unit off S.size p, v⟩]) = v := by
  subst h; exact View.read_writes_whole M.view f v
/-- and one load of all of a buffer reads its contents. -/
theorem reloaded {S : Shape} {e : EltTy} {M : Memref sig .tc .vmem S e} (hM : M.IsWhole) (v : S.Idx → Elt F e) {off : Fin S.rank → ℕ} (h : off = fun _ => 0)
    (p : ∀ a, off a + S.size a ≤ S.size a) : M.view.readAt (Elt F) (Rect.unit off S.size p).toLoadRect (hM.unread v) = v := by
  subst h; funext y; rw [hM.readAt_unread]
  exact congrArg v (funext fun a => Fin.ext (show 0 + 1 * (y a).val = (y a).val by omega))

/-- So a buffer one store filled is held at contents that read the value stored. -/
theorem owns_stored {S : Shape} {e : EltTy} (M : Memref sig .tc .vmem S e) (f : M.view.ty.Contents (Elt F)) {v v' : S.Idx → Elt F e} {off : Fin S.rank → ℕ}
    (p : ∀ a, off a + S.size a ≤ S.size a) (h : off = fun _ => 0) (hv : v' = v) :
    (M.view.loc (c : Thread nD τ) ↦[M.view.set]{fullShare} M.view.writes (Elt F) f [⟨Rect.unit off S.size p, v'⟩] : sProp 𝕄)
      ⊢ iprop(∃ g, ⌜M.view.read (Elt F) g = v⌝ ∗ M.view.loc (c : Thread nD τ) ↦[M.view.set]{fullShare} g) := by
  subst hv
  iintro H
  iexists _
  isplitr
  · ipureintro; exact stored M f v' h p
  iexact H

/-! ### Between two points -/

/-- Block `b` is on its way before point `p`. -/
abbrev OnWay (p : ℕ) (b : Fin 8) : Prop := 1 ≤ p ∧ p ≤ b.val ∧ b.val < p + 3
/-- Block `b`, slot `s` before point `p`; everything held there. -/
def block (p : ℕ) (b : Fin 8) : sProp 𝕄 := if OnWay p b then flight c x (Fin.ofNat 3 b.val) b else home c x b
def slot (p : ℕ) (s : Fin 3) : sProp 𝕄 := if ∃ b : Fin 8, OnWay p b ∧ Fin.ofNat 3 b.val = s then iprop(emp) else free c s
def flow (p : ℕ) : sProp 𝕄 := iprop(bigSep Finset.univ (block c x p) ∗ bigSep Finset.univ (slot c p))

/-- Members of a family taken out, and put back changed, the others being as before. -/
theorem exchange {I : Type} [Fintype I] [DecidableEq I] (S : Finset I) (Φ Ψ : I → sProp 𝕄) (h : ∀ i, i ∉ S → Φ i = Ψ i) :
    bigSep Finset.univ Φ ⊢ iprop(bigSep S Φ ∗ (bigSep S Ψ -∗ bigSep Finset.univ Ψ)) := by
  have e (Θ : I → sProp 𝕄) : bigSep Finset.univ Θ = iprop(bigSep S Θ ∗ bigSep (Finset.univ \ S) Θ) := bigSep_sdiff_split (Finset.subset_univ S)
  rw [e Φ, e Ψ, bigSep_congr (s := Finset.univ \ S) (Φ := Φ) (Ψ := Ψ) fun i hi => h i (Finset.mem_sdiff.mp hi).2]
  iintro ⟨H, R⟩
  isplitl [H]; · iexact H
  iintro H; isplitl [H]; · iexact H
  iexact R

theorem sep_two {I : Type} [DecidableEq I] (Φ : I → sProp 𝕄) {i j : I} (h : i ∉ ({j} : Finset I)) : bigSep {i, j} Φ = iprop(Φ i ∗ Φ j) := by
  rw [bigSep_insert h, bigSep_singleton]; rfl
theorem sep_first_four (Φ : Fin 8 → sProp 𝕄) : bigSep {0, 1, 2, 3} Φ = iprop(Φ 0 ∗ Φ 1 ∗ Φ 2 ∗ Φ 3) := by
  rw [bigSep_insert (by decide), bigSep_insert (by decide), bigSep_insert (by decide), bigSep_singleton]; rfl

theorem home_of {p : ℕ} {b : Fin 8} (h : ¬OnWay p b) : block c x p b = home c x b := if_neg h
theorem flight_of {p : ℕ} {b : Fin 8} (h : OnWay p b) : block c x p b = flight c x (Fin.ofNat 3 b.val) b := if_pos h

/-- Blocks in which two points agree. -/
theorem block_same {p r : ℕ} {b : Fin 8} (h : OnWay p b ↔ OnWay r b) : block c x p b = block c x r b := by
  unfold block; simp only [h]
theorem slot_same {p r : ℕ} {s : Fin 3} (h : (∃ b : Fin 8, OnWay p b ∧ Fin.ofNat 3 b.val = s) ↔ ∃ b : Fin 8, OnWay r b ∧ Fin.ofNat 3 b.val = s) :
    slot (F := F) c p s = slot c r s := by
  unfold slot; simp only [h]

theorem slots_steady : ∀ t : Fin 8, 1 ≤ t.val → t.val + 3 < 8 → ∀ s : Fin 3,
    ((∃ b : Fin 8, OnWay t.val b ∧ Fin.ofNat 3 b.val = s) ↔ ∃ b : Fin 8, OnWay (t.val + 1) b ∧ Fin.ofNat 3 b.val = s) := by decide
theorem slots_tail : ∀ t : Fin 8, 1 ≤ t.val → ¬t.val + 3 < 8 → ∀ s : Fin 3, s ∉ ({Fin.ofNat 3 t.val} : Finset (Fin 3)) →
    ((∃ b : Fin 8, OnWay t.val b ∧ Fin.ofNat 3 b.val = s) ↔ ∃ b : Fin 8, OnWay (t.val + 1) b ∧ Fin.ofNat 3 b.val = s) := by decide
theorem slot_busy : ∀ t : Fin 8, 1 ≤ t.val → ∃ b : Fin 8, OnWay t.val b ∧ Fin.ofNat 3 b.val = Fin.ofNat 3 t.val := by decide
theorem slot_done : ∀ t : Fin 8, ¬t.val + 3 < 8 → ¬∃ b : Fin 8, OnWay (t.val + 1) b ∧ Fin.ofNat 3 b.val = Fin.ofNat 3 t.val := by decide

/-- A point that reads a block and starts another: the two come out, and go back with their parts exchanged. -/
theorem flow_steady (t : ℕ) (h1 : 1 ≤ t) (h : t + 3 < 8) :
    flow c x t ⊢ (iprop(flight c x (Fin.ofNat 3 t) (Fin.ofNat 8 t) ∗ home c x (Fin.ofNat 8 (t + 3))
      ∗ ((home c x (Fin.ofNat 8 t) ∗ flight c x (Fin.ofNat 3 t) (Fin.ofNat 8 (t + 3))) -∗ flow c x (t + 1))) : sProp 𝕄) := by
  have et : (Fin.ofNat 8 t).val = t := Nat.mod_eq_of_lt (by omega)
  have ea : (Fin.ofNat 8 (t + 3)).val = t + 3 := Nat.mod_eq_of_lt h
  have ne : Fin.ofNat 8 t ∉ ({Fin.ofNat 8 (t + 3)} : Finset (Fin 8)) := by
    rw [Finset.mem_singleton, Fin.ext_iff, et, ea]; omega
  have es : Fin.ofNat 3 (t + 3) = Fin.ofNat 3 t := Fin.ext (Nat.add_mod_right t 3)
  have X := exchange {Fin.ofNat 8 t, Fin.ofNat 8 (t + 3)} (block c x t) (block c x (t + 1)) fun b hb => block_same c x (by
    simp only [Finset.mem_insert, Finset.mem_singleton, Fin.ext_iff, et, ea, not_or] at hb; simp only [OnWay]; omega)
  rw [sep_two _ ne, sep_two _ ne, flight_of c x (p := t) (b := Fin.ofNat 8 t) (by simp only [OnWay, et]; omega),
    home_of c x (p := t) (b := Fin.ofNat 8 (t + 3)) (by simp only [OnWay, ea]; omega), home_of c x (p := t + 1) (b := Fin.ofNat 8 t) (by simp only [OnWay, et]; omega),
    flight_of c x (p := t + 1) (b := Fin.ofNat 8 (t + 3)) (by simp only [OnWay, ea]; omega), et, ea, es] at X
  have Y : bigSep Finset.univ (slot (F := F) c t) = bigSep Finset.univ (slot c (t + 1)) :=
    bigSep_congr fun s _ => slot_same c (slots_steady ⟨t, by omega⟩ h1 h s)
  unfold flow; rw [Y]
  iintro ⟨HB, HS⟩
  ihave HX := X $$ HB
  icases HX with ⟨⟨HF, HH⟩, HR⟩
  isplitl [HF]; · iexact HF
  isplitl [HH]; · iexact HH
  iintro HN
  isplitl [HR HN]; · iapply HR; iexact HN
  iexact HS

/-- A point that reads a block and starts none: the block comes out, and goes back home, its slot free. -/
theorem flow_tail (t : ℕ) (h1 : 1 ≤ t) (h : ¬t + 3 < 8) (ht : t < 8) :
    flow c x t ⊢ (iprop(flight c x (Fin.ofNat 3 t) (Fin.ofNat 8 t) ∗ ((home c x (Fin.ofNat 8 t) ∗ free c (Fin.ofNat 3 t)) -∗ flow c x (t + 1))) : sProp 𝕄) := by
  have et : (Fin.ofNat 8 t).val = t := Nat.mod_eq_of_lt ht
  have X := exchange {Fin.ofNat 8 t} (block c x t) (block c x (t + 1)) fun b hb => block_same c x (by
    have := b.isLt
    simp only [Finset.mem_singleton, Fin.ext_iff, et] at hb; simp only [OnWay]; omega)
  rw [bigSep_singleton, bigSep_singleton, flight_of c x (p := t) (b := Fin.ofNat 8 t) (by simp only [OnWay, et]; omega),
    home_of c x (p := t + 1) (b := Fin.ofNat 8 t) (by simp only [OnWay, et]; omega), et] at X
  have Y := exchange {Fin.ofNat 3 t} (slot (F := F) c t) (slot c (t + 1)) fun s hs => slot_same c (slots_tail ⟨t, ht⟩ h1 h s hs)
  rw [bigSep_singleton, bigSep_singleton, show slot (F := F) c t (Fin.ofNat 3 t) = iprop(emp) from if_pos (slot_busy ⟨t, ht⟩ h1),
    show slot (F := F) c (t + 1) (Fin.ofNat 3 t) = free c (Fin.ofNat 3 t) from if_neg (slot_done ⟨t, ht⟩ h)] at Y
  unfold flow
  iintro ⟨HB, HS⟩
  ihave HX := X $$ HB
  icases HX with ⟨HF, HR⟩
  ihave HY := Y $$ HS
  icases HY with ⟨-, HT⟩
  isplitl [HF]; · iexact HF
  iintro ⟨HH, HN⟩
  isplitl [HR HH]; · iapply HR; iexact HH
  iapply HT; iexact HN

/-- The first point takes four blocks and every slot, reads the first block and leaves the other three on their way. -/
theorem flow_first :
    flow c x 0 ⊢ (iprop((home c x 0 ∗ home c x 1 ∗ home c x 2 ∗ home c x 3) ∗ (free c 0 ∗ free c 1 ∗ free c 2)
      ∗ ((home c x 0 ∗ flight c x 1 1 ∗ flight c x 2 2 ∗ flight c x 0 3) -∗ flow c x 1)) : sProp 𝕄) := by
  have X := exchange {0, 1, 2, 3} (block c x 0) (block c x 1) fun b hb => block_same c x (by revert b; decide)
  rw [sep_first_four, sep_first_four, home_of c x (p := 0) (b := 0) (by decide), home_of c x (p := 0) (b := 1) (by decide), home_of c x (p := 0) (b := 2) (by decide),
    home_of c x (p := 0) (b := 3) (by decide), home_of c x (p := 1) (b := 0) (by decide), flight_of c x (p := 1) (b := 1) (by decide),
    flight_of c x (p := 1) (b := 2) (by decide), flight_of c x (p := 1) (b := 3) (by decide)] at X
  have Y : bigSep Finset.univ (slot (F := F) c 1) = iprop(emp) :=
    (bigSep_congr fun s _ => if_pos (by revert s; decide)).trans (bigSep_emp_const _)
  have Z : bigSep Finset.univ (slot (F := F) c 0) = iprop(free c 0 ∗ free c 1 ∗ free c 2) :=
    (bigSep_congr fun s _ => if_neg (by revert s; decide)).trans (Ring.bigSep_fin3 (free c))
  unfold flow; rw [Y, Z]
  iintro ⟨HB, HS⟩
  ihave HX := X $$ HB
  icases HX with ⟨HH, HR⟩
  isplitl [HH]; · iexact HH
  isplitl [HS]; · iexact HS
  iintro HN
  isplitl [HR HN]; · iapply HR; iexact HN
  itrivial

/-- Before the first point and after the last, every block is at home and every slot free. -/
theorem flow_rest (p : ℕ) (h : p = 0 ∨ 8 ≤ p) : flow c x p = (iprop((acts.view.loc (c : Thread nD τ) ↦{fullShare} x) ∗ free c 0 ∗ free c 1 ∗ free c 2) : sProp 𝕄) := by
  have no : ∀ b : Fin 8, ¬OnWay p b := fun b => by have := b.isLt; simp only [OnWay]; omega
  unfold flow
  have Y : bigSep Finset.univ (slot (F := F) c p) = iprop(free c 0 ∗ free c 1 ∗ free c 2) :=
    (bigSep_congr fun s _ => if_neg fun ⟨b, hb, _⟩ => no b hb).trans (Ring.bigSep_fin3 (free c))
  have X : bigSep Finset.univ (block c x p) = bigSep Finset.univ (home c x) := bigSep_congr fun b _ => home_of c x (no b)
  rw [acts_blocks, X, Y]

/-- The launch's hand-over: the scratch, the semaphores at zero and the activations are everything held before the first point; -/
theorem flow_in (p : ℕ) (h : p = 0 ∨ 8 ≤ p) :
    iprop((∃ e, ring.view.loc (c : Thread nD τ) ↦{fullShare} e) ∗ (semVal ((c : Thread nD τ), SemLoc.dma 7) 0 ∗ semVal ((c : Thread nD τ), SemLoc.dma 8) 0 ∗ semVal ((c : Thread nD τ), SemLoc.dma 9) 0)
      ∗ acts.view.loc (c : Thread nD τ) ↦{fullShare} x) ⊢ flow c x p := by
  rw [flow_rest c x p h]
  simp only [free, cellZero, cellAt_0, cellAt_1, cellAt_2]
  iintro ⟨⟨%e, HR⟩, ⟨H0, H1, H2⟩, HA⟩
  ihave HS := (Entails.of_eq ((ring_slots c e).trans (Ring.bigSep_fin3 _))) $$ HR
  icases HS with ⟨R0, R1, R2⟩
  isplitl [HA]; · iexact HA
  isplitl [H0 R0]; · isplitl [H0]; · iexact H0
                     iexists e; iexact R0
  isplitl [H1 R1]; · isplitl [H1]; · iexact H1
                     iexists e; iexact R1
  isplitl [H2]; · iexact H2
  iexists e; iexact R2

/-- and its taking back. -/
theorem flow_out (p : ℕ) (h : p = 0 ∨ 8 ≤ p) :
    flow c x p ⊢ (iprop((∃ e, ring.view.loc (c : Thread nD τ) ↦{fullShare} e) ∗ (semVal ((c : Thread nD τ), SemLoc.dma 7) 0 ∗ semVal ((c : Thread nD τ), SemLoc.dma 8) 0 ∗ semVal ((c : Thread nD τ), SemLoc.dma 9) 0)
      ∗ acts.view.loc (c : Thread nD τ) ↦{fullShare} x) : sProp 𝕄) := by
  rw [flow_rest c x p h]
  simp only [free, cellZero, cellAt_0, cellAt_1, cellAt_2]
  iintro ⟨HA, ⟨H0, R0⟩, ⟨H1, R1⟩, H2, R2⟩
  isplitl [R0 R1 R2]
  · iapply (slots_ring c (full c x 0 0))
    rw [Ring.bigSep_fin3]
    isplitl [R0]; · iexact R0
    isplitl [R1]; · iexact R1
    iexact R2
  isplitl [H0 H1 H2]
  · isplitl [H0]; · iexact H0
    isplitl [H1]; · iexact H1
    iexact H2
  iexact HA

end Pieces
end Cert.KernelIdeal.Router
-- ==== Proof.Router.RunFirst.lean ====
/- The kernel's run at the first point: it starts the first three blocks, waits for the first of them, reads it from its slot,
   stores the three results, and starts the fourth block into the slot it has read. -/
module

public import proofs.«01_k».proof.Proof.Router.Flow

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

set_option maxHeartbeats 1000000 in
theorem run_first (c : Dev nD) (x : Acts F c) (t : Fin cfg0.N) (ht : t.val = 0) (ho : Opens (grid0.coords t)) (hf : Feeds (grid0.coords t))
    (arg2 : Memref sig .tc .vmem S768x64 .f32) (harg2 : arg2.IsWhole) (arg3 : Memref sig .tc .vmem S4096x64 .f32) (harg3 : arg3.IsWhole)
    (arg4 : Memref sig .tc .vmem S4096x1 .f32) (harg4 : arg4.IsWhole) (arg5 : Memref sig .tc .vmem S4096x1 .i32) (harg5 : arg5.IsWhole)
    (w : Vec F S768x64 .f32) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ (∃ d, owns (c : Thread nD τ) arg5 fullShare d) ∗ (home c x (blockOf t) ∗ home c x 1 ∗ home c x 2 ∗ home c x (aheadOf t))
        ∗ (free c (slotOf t) ∗ free c 1 ∗ free c 2) ∗ owes (c : Thread nD τ) 0 W
        ∗ (iprop(owns (c : Thread nD τ) arg2 fullShare w ∗ owns (c : Thread nD τ) arg3 fullShare (k0_pay5 (rows c x t) w)
            ∗ owns (c : Thread nD τ) arg4 fullShare (k0_pay6 (rows c x t) w) ∗ owns (c : Thread nD τ) arg5 fullShare (k0_pay7 (rows c x t) w)
            ∗ (home c x (blockOf t) ∗ flight c x 1 1 ∗ flight c x 2 2 ∗ flight c x (slotOf t) (aheadOf t)) ∗ ∃ W', owes (c : Thread nD τ) 0 W') -∗ K ⟨⟩))
      ⊢ wp frame (wpE (defs₀ (F := F)) Variants.none c none) Set.univ (cc0__router_block (grid0.coords t) acts (Memref.isWhole_whole _) arg2 harg2 arg3 harg3
          arg4 harg4 arg5 harg5 ring (Memref.isWhole_whole _) cc0_scratch1) K := by
  haveI : Fact (Opens (grid0.coords t)) := ⟨ho⟩
  haveI : Fact (Feeds (grid0.coords t)) := ⟨hf⟩
  simp only [cc0__router_block_eq_skeleton]; unfold cc0__router_block_skel
  simp only [k0_part1_eq_skeleton, k0_part2_eq_skeleton, k0_part3_eq_skeleton, k0_part4_eq_skeleton, k0_part5_eq_skeleton, k0_part6_eq_skeleton]
  obtain ⟨e1, e2, e4, e6, e8, e10, e12, e14⟩ := wait_offsets t
  obtain ⟨e3, e5, e7, e9, e11, e13⟩ := wait_sources t
  have hcanon1 := cell_at (k0_off1_inb (grid0.coords t)) e1
  have hcanon2 := part_at (k0_off2_inb (grid0.coords t)) e2
  have hcanon3 := column_at (k0_off3_inb (grid0.coords t)) e3
  have hcanon4 := part_at (k0_off4_inb (grid0.coords t)) e4
  have hcanon5 := column_at (k0_off5_inb (grid0.coords t)) e5
  have hcanon6 := part_at (k0_off6_inb (grid0.coords t)) e6
  have hcanon7 := column_at (k0_off7_inb (grid0.coords t)) e7
  have hcanon8 := part_at (k0_off8_inb (grid0.coords t)) e8
  have hcanon9 := column_at (k0_off9_inb (grid0.coords t)) e9
  have hcanon10 := part_at (k0_off10_inb (grid0.coords t)) e10
  have hcanon11 := column_at (k0_off11_inb (grid0.coords t)) e11
  have hcanon12 := part_at (k0_off12_inb (grid0.coords t)) e12
  have hcanon13 := column_at (k0_off13_inb (grid0.coords t)) e13
  obtain ⟨i15, i16, i18, i20, i22, i24, i26⟩ := start_offsets t
  obtain ⟨i17, i19, i21, i23, i25, i27⟩ := start_sources t ((feeds_iff t).mp hf)
  have hcanon15 := cell_at (k0_off15_inb (grid0.coords t) hf) i15
  have hcanon15' := cell_at' (k0_off15_inb (grid0.coords t) hf) i15
  have hcanon16 := part_at (k0_off16_inb (grid0.coords t) hf) i16
  have hcanon16' := part_at' (k0_off16_inb (grid0.coords t) hf) i16
  have hcanon17 := column_at (k0_off17_inb (grid0.coords t) hf) i17
  have hcanon17' := column_at' (k0_off17_inb (grid0.coords t) hf) i17
  have hcanon18 := part_at (k0_off18_inb (grid0.coords t) hf) i18
  have hcanon18' := part_at' (k0_off18_inb (grid0.coords t) hf) i18
  have hcanon19 := column_at (k0_off19_inb (grid0.coords t) hf) i19
  have hcanon19' := column_at' (k0_off19_inb (grid0.coords t) hf) i19
  have hcanon20 := part_at (k0_off20_inb (grid0.coords t) hf) i20
  have hcanon20' := part_at' (k0_off20_inb (grid0.coords t) hf) i20
  have hcanon21 := column_at (k0_off21_inb (grid0.coords t) hf) i21
  have hcanon21' := column_at' (k0_off21_inb (grid0.coords t) hf) i21
  have hcanon22 := part_at (k0_off22_inb (grid0.coords t) hf) i22
  have hcanon22' := part_at' (k0_off22_inb (grid0.coords t) hf) i22
  have hcanon23 := column_at (k0_off23_inb (grid0.coords t) hf) i23
  have hcanon23' := column_at' (k0_off23_inb (grid0.coords t) hf) i23
  have hcanon24 := part_at (k0_off24_inb (grid0.coords t) hf) i24
  have hcanon24' := part_at' (k0_off24_inb (grid0.coords t) hf) i24
  have hcanon25 := column_at (k0_off25_inb (grid0.coords t) hf) i25
  have hcanon25' := column_at' (k0_off25_inb (grid0.coords t) hf) i25
  have hcanon26 := part_at (k0_off26_inb (grid0.coords t) hf) i26
  have hcanon26' := part_at' (k0_off26_inb (grid0.coords t) hf) i26
  have hcanon27 := column_at (k0_off27_inb (grid0.coords t) hf) i27
  have hcanon27' := column_at' (k0_off27_inb (grid0.coords t) hf) i27
  have s0 : (slotOf t).val = 0 := by show t.val % 3 = 0; rw [ht]
  have b0 : (blockOf t).val = 0 := by show t.val % 8 = 0; rw [ht]
  have hcanonC0 := cell_at (off1 := ![0]) (s := slotOf t) (cell_inb 0) (by rw [s0])
  have hcanonP00 := part_at (off3 := ![0, 0, 0]) (s := slotOf t) (w := 0) (part_inb 0 0) (by rw [s0]; rfl)
  have hcanonS00 := column_at (off2 := ![0, 0]) (b := blockOf t) (w := 0) (column_inb 0 0) (by rw [b0]; rfl)
  have hcanonP01 := part_at (off3 := ![0, 0, 128]) (s := slotOf t) (w := 1) (part_inb 0 1) (by rw [s0]; rfl)
  have hcanonS01 := column_at (off2 := ![0, 128]) (b := blockOf t) (w := 1) (column_inb 0 1) (by rw [b0]; rfl)
  have hcanonP02 := part_at (off3 := ![0, 0, 256]) (s := slotOf t) (w := 2) (part_inb 0 2) (by rw [s0]; rfl)
  have hcanonS02 := column_at (off2 := ![0, 256]) (b := blockOf t) (w := 2) (column_inb 0 2) (by rw [b0]; rfl)
  have hcanonP03 := part_at (off3 := ![0, 0, 384]) (s := slotOf t) (w := 3) (part_inb 0 3) (by rw [s0]; rfl)
  have hcanonS03 := column_at (off2 := ![0, 384]) (b := blockOf t) (w := 3) (column_inb 0 3) (by rw [b0]; rfl)
  have hcanonP04 := part_at (off3 := ![0, 0, 512]) (s := slotOf t) (w := 4) (part_inb 0 4) (by rw [s0]; rfl)
  have hcanonS04 := column_at (off2 := ![0, 512]) (b := blockOf t) (w := 4) (column_inb 0 4) (by rw [b0]; rfl)
  have hcanonP05 := part_at (off3 := ![0, 0, 640]) (s := slotOf t) (w := 5) (part_inb 0 5) (by rw [s0]; rfl)
  have hcanonS05 := column_at (off2 := ![0, 640]) (b := blockOf t) (w := 5) (column_inb 0 5) (by rw [b0]; rfl)
  have hcanonC1 := cell_at (off1 := ![1]) (s := 1) (cell_inb 1) rfl
  have hcanonP10 := part_at (off3 := ![1, 0, 0]) (s := 1) (w := 0) (part_inb 1 0) rfl
  have hcanonS10 := column_at (off2 := ![4096, 0]) (b := 1) (w := 0) (column_inb 1 0) rfl
  have hcanonP11 := part_at (off3 := ![1, 0, 128]) (s := 1) (w := 1) (part_inb 1 1) rfl
  have hcanonS11 := column_at (off2 := ![4096, 128]) (b := 1) (w := 1) (column_inb 1 1) rfl
  have hcanonP12 := part_at (off3 := ![1, 0, 256]) (s := 1) (w := 2) (part_inb 1 2) rfl
  have hcanonS12 := column_at (off2 := ![4096, 256]) (b := 1) (w := 2) (column_inb 1 2) rfl
  have hcanonP13 := part_at (off3 := ![1, 0, 384]) (s := 1) (w := 3) (part_inb 1 3) rfl
  have hcanonS13 := column_at (off2 := ![4096, 384]) (b := 1) (w := 3) (column_inb 1 3) rfl
  have hcanonP14 := part_at (off3 := ![1, 0, 512]) (s := 1) (w := 4) (part_inb 1 4) rfl
  have hcanonS14 := column_at (off2 := ![4096, 512]) (b := 1) (w := 4) (column_inb 1 4) rfl
  have hcanonP15 := part_at (off3 := ![1, 0, 640]) (s := 1) (w := 5) (part_inb 1 5) rfl
  have hcanonS15 := column_at (off2 := ![4096, 640]) (b := 1) (w := 5) (column_inb 1 5) rfl
  have hcanonC2 := cell_at (off1 := ![2]) (s := 2) (cell_inb 2) rfl
  have hcanonP20 := part_at (off3 := ![2, 0, 0]) (s := 2) (w := 0) (part_inb 2 0) rfl
  have hcanonS20 := column_at (off2 := ![8192, 0]) (b := 2) (w := 0) (column_inb 2 0) rfl
  have hcanonP21 := part_at (off3 := ![2, 0, 128]) (s := 2) (w := 1) (part_inb 2 1) rfl
  have hcanonS21 := column_at (off2 := ![8192, 128]) (b := 2) (w := 1) (column_inb 2 1) rfl
  have hcanonP22 := part_at (off3 := ![2, 0, 256]) (s := 2) (w := 2) (part_inb 2 2) rfl
  have hcanonS22 := column_at (off2 := ![8192, 256]) (b := 2) (w := 2) (column_inb 2 2) rfl
  have hcanonP23 := part_at (off3 := ![2, 0, 384]) (s := 2) (w := 3) (part_inb 2 3) rfl
  have hcanonS23 := column_at (off2 := ![8192, 384]) (b := 2) (w := 3) (column_inb 2 3) rfl
  have hcanonP24 := part_at (off3 := ![2, 0, 512]) (s := 2) (w := 4) (part_inb 2 4) rfl
  have hcanonS24 := column_at (off2 := ![8192, 512]) (b := 2) (w := 4) (column_inb 2 4) rfl
  have hcanonP25 := part_at (off3 := ![2, 0, 640]) (s := 2) (w := 5) (part_inb 2 5) rfl
  have hcanonS25 := column_at (off2 := ![8192, 640]) (b := 2) (w := 5) (column_inb 2 5) rfl
  have hcanonC0' := cell_at' (off1 := ![0]) (s := slotOf t) (cell_inb 0) (by rw [s0])
  have hcanonP00' := part_at' (off3 := ![0, 0, 0]) (s := slotOf t) (w := 0) (part_inb 0 0) (by rw [s0]; rfl)
  have hcanonS00' := column_at' (off2 := ![0, 0]) (b := blockOf t) (w := 0) (column_inb 0 0) (by rw [b0]; rfl)
  have hcanonP01' := part_at' (off3 := ![0, 0, 128]) (s := slotOf t) (w := 1) (part_inb 0 1) (by rw [s0]; rfl)
  have hcanonS01' := column_at' (off2 := ![0, 128]) (b := blockOf t) (w := 1) (column_inb 0 1) (by rw [b0]; rfl)
  have hcanonP02' := part_at' (off3 := ![0, 0, 256]) (s := slotOf t) (w := 2) (part_inb 0 2) (by rw [s0]; rfl)
  have hcanonS02' := column_at' (off2 := ![0, 256]) (b := blockOf t) (w := 2) (column_inb 0 2) (by rw [b0]; rfl)
  have hcanonP03' := part_at' (off3 := ![0, 0, 384]) (s := slotOf t) (w := 3) (part_inb 0 3) (by rw [s0]; rfl)
  have hcanonS03' := column_at' (off2 := ![0, 384]) (b := blockOf t) (w := 3) (column_inb 0 3) (by rw [b0]; rfl)
  have hcanonP04' := part_at' (off3 := ![0, 0, 512]) (s := slotOf t) (w := 4) (part_inb 0 4) (by rw [s0]; rfl)
  have hcanonS04' := column_at' (off2 := ![0, 512]) (b := blockOf t) (w := 4) (column_inb 0 4) (by rw [b0]; rfl)
  have hcanonP05' := part_at' (off3 := ![0, 0, 640]) (s := slotOf t) (w := 5) (part_inb 0 5) (by rw [s0]; rfl)
  have hcanonS05' := column_at' (off2 := ![0, 640]) (b := blockOf t) (w := 5) (column_inb 0 5) (by rw [b0]; rfl)
  have hcanonC1' := cell_at' (off1 := ![1]) (s := 1) (cell_inb 1) rfl
  have hcanonP10' := part_at' (off3 := ![1, 0, 0]) (s := 1) (w := 0) (part_inb 1 0) rfl
  have hcanonS10' := column_at' (off2 := ![4096, 0]) (b := 1) (w := 0) (column_inb 1 0) rfl
  have hcanonP11' := part_at' (off3 := ![1, 0, 128]) (s := 1) (w := 1) (part_inb 1 1) rfl
  have hcanonS11' := column_at' (off2 := ![4096, 128]) (b := 1) (w := 1) (column_inb 1 1) rfl
  have hcanonP12' := part_at' (off3 := ![1, 0, 256]) (s := 1) (w := 2) (part_inb 1 2) rfl
  have hcanonS12' := column_at' (off2 := ![4096, 256]) (b := 1) (w := 2) (column_inb 1 2) rfl
  have hcanonP13' := part_at' (off3 := ![1, 0, 384]) (s := 1) (w := 3) (part_inb 1 3) rfl
  have hcanonS13' := column_at' (off2 := ![4096, 384]) (b := 1) (w := 3) (column_inb 1 3) rfl
  have hcanonP14' := part_at' (off3 := ![1, 0, 512]) (s := 1) (w := 4) (part_inb 1 4) rfl
  have hcanonS14' := column_at' (off2 := ![4096, 512]) (b := 1) (w := 4) (column_inb 1 4) rfl
  have hcanonP15' := part_at' (off3 := ![1, 0, 640]) (s := 1) (w := 5) (part_inb 1 5) rfl
  have hcanonS15' := column_at' (off2 := ![4096, 640]) (b := 1) (w := 5) (column_inb 1 5) rfl
  have hcanonC2' := cell_at' (off1 := ![2]) (s := 2) (cell_inb 2) rfl
  have hcanonP20' := part_at' (off3 := ![2, 0, 0]) (s := 2) (w := 0) (part_inb 2 0) rfl
  have hcanonS20' := column_at' (off2 := ![8192, 0]) (b := 2) (w := 0) (column_inb 2 0) rfl
  have hcanonP21' := part_at' (off3 := ![2, 0, 128]) (s := 2) (w := 1) (part_inb 2 1) rfl
  have hcanonS21' := column_at' (off2 := ![8192, 128]) (b := 2) (w := 1) (column_inb 2 1) rfl
  have hcanonP22' := part_at' (off3 := ![2, 0, 256]) (s := 2) (w := 2) (part_inb 2 2) rfl
  have hcanonS22' := column_at' (off2 := ![8192, 256]) (b := 2) (w := 2) (column_inb 2 2) rfl
  have hcanonP23' := part_at' (off3 := ![2, 0, 384]) (s := 2) (w := 3) (part_inb 2 3) rfl
  have hcanonS23' := column_at' (off2 := ![8192, 384]) (b := 2) (w := 3) (column_inb 2 3) rfl
  have hcanonP24' := part_at' (off3 := ![2, 0, 512]) (s := 2) (w := 4) (part_inb 2 4) rfl
  have hcanonS24' := column_at' (off2 := ![8192, 512]) (b := 2) (w := 4) (column_inb 2 4) rfl
  have hcanonP25' := part_at' (off3 := ![2, 0, 640]) (s := 2) (w := 5) (part_inb 2 5) rfl
  have hcanonS25' := column_at' (off2 := ![8192, 640]) (b := 2) (w := 5) (column_inb 2 5) rfl
  unfold owns
  iintro ⟨⟨%f2, %hf2, H2⟩, ⟨%d3, %f3, -, H3⟩, ⟨%d4, %f4, -, H4⟩, ⟨%d5, %f5, -, H5⟩, ⟨⟨A0, A1, A2, A3, A4, A5⟩, ⟨B0, B1, B2, B3, B4, B5⟩, ⟨C0, C1, C2, C3, C4, C5⟩, HC⟩,
    ⟨⟨HB, %ea, D0, D1, D2, D3, D4, D5⟩, ⟨HB1, %eb, E0, E1, E2, E3, E4, E5⟩, ⟨HB2, %ec, G0, G1, G2, G3, G4, G5⟩⟩, HW, Hk⟩
  obtain rfl := harg2.eq_unread hf2
  have hDHB := brings_storable c x (slotOf t) (blockOf t)
  imod (Transfers.batch_alloc' (Lvl := ℕ) countersEmb (c : Thread nD τ) default (amount) (brings c x (slotOf t) (blockOf t)) (sm := cellAt (slotOf t)) (E := Set.univ)) $$ HB with HB
  have hDHB1 := brings_storable c x 1 1
  imod (Transfers.batch_alloc' (Lvl := ℕ) countersEmb (c : Thread nD τ) default (amount) (brings c x 1 1) (sm := cellAt 1) (E := Set.univ)) $$ HB1 with HB1
  have hDHB2 := brings_storable c x 2 2
  imod (Transfers.batch_alloc' (Lvl := ℕ) countersEmb (c : Thread nD τ) default (amount) (brings c x 2 2) (sm := cellAt 2) (E := Set.univ)) $$ HB2 with HB2
  sl_exec (disch := first | sl_exact ho | sl_exact hf)
  ihave HL := (arrived c x t (blockOf t)) $$ [HB_dst0 HB_dst1 HB_dst2 HB_dst3 HB_dst4 HB_dst5]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  sl_exec (disch := first | sl_exact ho | sl_exact hf)
  icases HC with ⟨HC0, HC1, HC2, HC3, HC4, HC5⟩
  ihave HP := (reread c t (full c x (slotOf t) (blockOf t))) $$ HL
  icases HP with ⟨HP0, HP1, HP2, HP3, HP4, HP5⟩
  have hD := brings_storable c x (slotOf t) (aheadOf t)
  imod (Transfers.batch_alloc' (Lvl := ℕ) countersEmb (c : Thread nD τ) default (amount) (brings c x (slotOf t) (aheadOf t)) (sm := cellAt (slotOf t)) (E := Set.univ)) $$ HB with HF
  sl_exec (disch := first | sl_exact ho | sl_exact hf)
  sl_step
  iapply Hk
  have hw : arg2.view.readAt (Elt F) (Rect.unit (s := S768x64) ![0, 0] S768x64.size inb_S768x64_S768x64_0_0).toLoadRect (harg2.unread w) = w := reloaded harg2 w zero2 _
  isplitl [H2]
  · iexists (harg2.unread w); isplitr
    · ipureintro; exact hf2
    iexact H2
  ihave R3 := (owns_stored c arg3 f3 _ zero2 (congrArg (k0_pay5 (rows c x t)) hw)) $$ H3
  ihave R4 := (owns_stored c arg4 f4 _ zero2 (congrArg (k0_pay6 (rows c x t)) hw)) $$ H4
  isplitl [R3]; · iexact R3
  isplitl [R4]; · iexact R4
  isplitl [H5]
  · iapply (owns_stored c arg5 f5 inb_S4096x1_S4096x1_0_0 zero2 (congrArg (k0_pay7 (rows c x t)) hw)); iexact H5
  isplitr [HW]
  · isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    isplitl [HB1]; · iexact HB1
    isplitl [HB2]; · iexact HB2
    iexact HF
  iexists _; iexact HW

end Cert.KernelIdeal.Router
-- ==== Proof.Router.RunSteady.lean ====
/- One run of the kernel at a point that starts a block but not the first ones: it waits for its block, reads it from the
   slot, stores the three results, and starts the block three ahead into the slot it has read. -/
module

public import proofs.«01_k».proof.Proof.Router.Flow

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

set_option maxHeartbeats 1000000 in
theorem run_steady (c : Dev nD) (x : Acts F c) (t : Fin cfg0.N) (ho : ¬Opens (grid0.coords t)) (hf : Feeds (grid0.coords t))
    (arg2 : Memref sig .tc .vmem S768x64 .f32) (harg2 : arg2.IsWhole) (arg3 : Memref sig .tc .vmem S4096x64 .f32) (harg3 : arg3.IsWhole)
    (arg4 : Memref sig .tc .vmem S4096x1 .f32) (harg4 : arg4.IsWhole) (arg5 : Memref sig .tc .vmem S4096x1 .i32) (harg5 : arg5.IsWhole)
    (w : Vec F S768x64 .f32) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ (∃ d, owns (c : Thread nD τ) arg5 fullShare d) ∗ flight c x (slotOf t) (blockOf t) ∗ home c x (aheadOf t) ∗ owes (c : Thread nD τ) 0 W
        ∗ (iprop(owns (c : Thread nD τ) arg2 fullShare w ∗ owns (c : Thread nD τ) arg3 fullShare (k0_pay5 (rows c x t) w)
            ∗ owns (c : Thread nD τ) arg4 fullShare (k0_pay6 (rows c x t) w) ∗ owns (c : Thread nD τ) arg5 fullShare (k0_pay7 (rows c x t) w)
            ∗ (home c x (blockOf t) ∗ flight c x (slotOf t) (aheadOf t)) ∗ ∃ W', owes (c : Thread nD τ) 0 W') -∗ K ⟨⟩))
      ⊢ wp frame (wpE (defs₀ (F := F)) Variants.none c none) Set.univ (cc0__router_block (grid0.coords t) acts (Memref.isWhole_whole _) arg2 harg2 arg3 harg3
          arg4 harg4 arg5 harg5 ring (Memref.isWhole_whole _) cc0_scratch1) K := by
  haveI : Fact (¬Opens (grid0.coords t)) := ⟨ho⟩
  haveI : Fact (Feeds (grid0.coords t)) := ⟨hf⟩
  simp only [cc0__router_block_eq_skeleton]; unfold cc0__router_block_skel
  simp only [k0_part4_eq_skeleton, k0_part5_eq_skeleton, k0_part6_eq_skeleton]
  obtain ⟨e1, e2, e4, e6, e8, e10, e12, e14⟩ := wait_offsets t
  obtain ⟨e3, e5, e7, e9, e11, e13⟩ := wait_sources t
  have hcanon1 := cell_at (k0_off1_inb (grid0.coords t)) e1
  have hcanon2 := part_at (k0_off2_inb (grid0.coords t)) e2
  have hcanon3 := column_at (k0_off3_inb (grid0.coords t)) e3
  have hcanon4 := part_at (k0_off4_inb (grid0.coords t)) e4
  have hcanon5 := column_at (k0_off5_inb (grid0.coords t)) e5
  have hcanon6 := part_at (k0_off6_inb (grid0.coords t)) e6
  have hcanon7 := column_at (k0_off7_inb (grid0.coords t)) e7
  have hcanon8 := part_at (k0_off8_inb (grid0.coords t)) e8
  have hcanon9 := column_at (k0_off9_inb (grid0.coords t)) e9
  have hcanon10 := part_at (k0_off10_inb (grid0.coords t)) e10
  have hcanon11 := column_at (k0_off11_inb (grid0.coords t)) e11
  have hcanon12 := part_at (k0_off12_inb (grid0.coords t)) e12
  have hcanon13 := column_at (k0_off13_inb (grid0.coords t)) e13
  obtain ⟨i15, i16, i18, i20, i22, i24, i26⟩ := start_offsets t
  obtain ⟨i17, i19, i21, i23, i25, i27⟩ := start_sources t ((feeds_iff t).mp hf)
  have hcanon15 := cell_at (k0_off15_inb (grid0.coords t) hf) i15
  have hcanon15' := cell_at' (k0_off15_inb (grid0.coords t) hf) i15
  have hcanon16 := part_at (k0_off16_inb (grid0.coords t) hf) i16
  have hcanon16' := part_at' (k0_off16_inb (grid0.coords t) hf) i16
  have hcanon17 := column_at (k0_off17_inb (grid0.coords t) hf) i17
  have hcanon17' := column_at' (k0_off17_inb (grid0.coords t) hf) i17
  have hcanon18 := part_at (k0_off18_inb (grid0.coords t) hf) i18
  have hcanon18' := part_at' (k0_off18_inb (grid0.coords t) hf) i18
  have hcanon19 := column_at (k0_off19_inb (grid0.coords t) hf) i19
  have hcanon19' := column_at' (k0_off19_inb (grid0.coords t) hf) i19
  have hcanon20 := part_at (k0_off20_inb (grid0.coords t) hf) i20
  have hcanon20' := part_at' (k0_off20_inb (grid0.coords t) hf) i20
  have hcanon21 := column_at (k0_off21_inb (grid0.coords t) hf) i21
  have hcanon21' := column_at' (k0_off21_inb (grid0.coords t) hf) i21
  have hcanon22 := part_at (k0_off22_inb (grid0.coords t) hf) i22
  have hcanon22' := part_at' (k0_off22_inb (grid0.coords t) hf) i22
  have hcanon23 := column_at (k0_off23_inb (grid0.coords t) hf) i23
  have hcanon23' := column_at' (k0_off23_inb (grid0.coords t) hf) i23
  have hcanon24 := part_at (k0_off24_inb (grid0.coords t) hf) i24
  have hcanon24' := part_at' (k0_off24_inb (grid0.coords t) hf) i24
  have hcanon25 := column_at (k0_off25_inb (grid0.coords t) hf) i25
  have hcanon25' := column_at' (k0_off25_inb (grid0.coords t) hf) i25
  have hcanon26 := part_at (k0_off26_inb (grid0.coords t) hf) i26
  have hcanon26' := part_at' (k0_off26_inb (grid0.coords t) hf) i26
  have hcanon27 := column_at (k0_off27_inb (grid0.coords t) hf) i27
  have hcanon27' := column_at' (k0_off27_inb (grid0.coords t) hf) i27
  unfold owns
  iintro ⟨⟨%f2, %hf2, H2⟩, ⟨%d3, %f3, -, H3⟩, ⟨%d4, %f4, -, H4⟩, ⟨%d5, %f5, -, H5⟩, HB, HC, HW, Hk⟩
  obtain rfl := harg2.eq_unread hf2
  sl_exec (disch := first | sl_exact ho | sl_exact hf)
  ihave HL := (arrived c x t (blockOf t)) $$ [HB_dst0 HB_dst1 HB_dst2 HB_dst3 HB_dst4 HB_dst5]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  sl_exec (disch := first | sl_exact ho | sl_exact hf)
  icases HC with ⟨HC0, HC1, HC2, HC3, HC4, HC5⟩
  ihave HP := (reread c t (full c x (slotOf t) (blockOf t))) $$ HL
  icases HP with ⟨HP0, HP1, HP2, HP3, HP4, HP5⟩
  have hD := brings_storable c x (slotOf t) (aheadOf t)
  imod (Transfers.batch_alloc' (Lvl := ℕ) countersEmb (c : Thread nD τ) default (amount) (brings c x (slotOf t) (aheadOf t)) (sm := cellAt (slotOf t)) (E := Set.univ)) $$ HB with HF
  sl_exec (disch := first | sl_exact ho | sl_exact hf)
  sl_step
  iapply Hk
  have hw : arg2.view.readAt (Elt F) (Rect.unit (s := S768x64) ![0, 0] S768x64.size inb_S768x64_S768x64_0_0).toLoadRect (harg2.unread w) = w := reloaded harg2 w zero2 _
  isplitl [H2]
  · iexists (harg2.unread w); isplitr
    · ipureintro; exact hf2
    iexact H2
  ihave G3 := (owns_stored c arg3 f3 _ zero2 (congrArg (k0_pay5 (rows c x t)) hw)) $$ H3
  ihave G4 := (owns_stored c arg4 f4 _ zero2 (congrArg (k0_pay6 (rows c x t)) hw)) $$ H4
  isplitl [G3]; · iexact G3
  isplitl [G4]; · iexact G4
  isplitl [H5]
  · iapply (owns_stored c arg5 f5 inb_S4096x1_S4096x1_0_0 zero2 (congrArg (k0_pay7 (rows c x t)) hw)); iexact H5
  isplitr [HW]
  · isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    iexact HF
  iexists _; iexact HW

end Cert.KernelIdeal.Router
-- ==== Proof.Router.RunTail.lean ====
/- One run of the kernel at a point that starts no transfer: it waits for its block, reads it from the slot, and stores the
   three results. -/
module

public import proofs.«01_k».proof.Proof.Router.Flow

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (Pipeline.UD sig nD τ) ℕ

set_option maxHeartbeats 1000000 in
theorem run_tail (c : Dev nD) (x : Acts F c) (t : Fin cfg0.N) (ho : ¬Opens (grid0.coords t)) (hf : ¬Feeds (grid0.coords t))
    (arg2 : Memref sig .tc .vmem S768x64 .f32) (harg2 : arg2.IsWhole) (arg3 : Memref sig .tc .vmem S4096x64 .f32) (harg3 : arg3.IsWhole)
    (arg4 : Memref sig .tc .vmem S4096x1 .f32) (harg4 : arg4.IsWhole) (arg5 : Memref sig .tc .vmem S4096x1 .i32) (harg5 : arg5.IsWhole)
    (w : Vec F S768x64 .f32) (W : Waits sig Unit) (K : PUnit → sProp 𝕄) :
    iprop(owns (c : Thread nD τ) arg2 fullShare w ∗ (∃ d, owns (c : Thread nD τ) arg3 fullShare d) ∗ (∃ d, owns (c : Thread nD τ) arg4 fullShare d)
        ∗ (∃ d, owns (c : Thread nD τ) arg5 fullShare d) ∗ flight c x (slotOf t) (blockOf t) ∗ owes (c : Thread nD τ) 0 W
        ∗ (iprop(owns (c : Thread nD τ) arg2 fullShare w ∗ owns (c : Thread nD τ) arg3 fullShare (k0_pay5 (rows c x t) w)
            ∗ owns (c : Thread nD τ) arg4 fullShare (k0_pay6 (rows c x t) w) ∗ owns (c : Thread nD τ) arg5 fullShare (k0_pay7 (rows c x t) w)
            ∗ (home c x (blockOf t) ∗ free c (slotOf t)) ∗ ∃ W', owes (c : Thread nD τ) 0 W') -∗ K ⟨⟩))
      ⊢ wp frame (wpE (defs₀ (F := F)) Variants.none c none) Set.univ (cc0__router_block (grid0.coords t) acts (Memref.isWhole_whole _) arg2 harg2 arg3 harg3
          arg4 harg4 arg5 harg5 ring (Memref.isWhole_whole _) cc0_scratch1) K := by
  haveI : Fact (¬Opens (grid0.coords t)) := ⟨ho⟩
  haveI : Fact (¬Feeds (grid0.coords t)) := ⟨hf⟩
  simp only [cc0__router_block_eq_skeleton]; unfold cc0__router_block_skel
  simp only [k0_part5_eq_skeleton, k0_part6_eq_skeleton]
  obtain ⟨e1, e2, e4, e6, e8, e10, e12, e14⟩ := wait_offsets t
  obtain ⟨e3, e5, e7, e9, e11, e13⟩ := wait_sources t
  have hcanon1 := cell_at (k0_off1_inb (grid0.coords t)) e1
  have hcanon2 := part_at (k0_off2_inb (grid0.coords t)) e2
  have hcanon3 := column_at (k0_off3_inb (grid0.coords t)) e3
  have hcanon4 := part_at (k0_off4_inb (grid0.coords t)) e4
  have hcanon5 := column_at (k0_off5_inb (grid0.coords t)) e5
  have hcanon6 := part_at (k0_off6_inb (grid0.coords t)) e6
  have hcanon7 := column_at (k0_off7_inb (grid0.coords t)) e7
  have hcanon8 := part_at (k0_off8_inb (grid0.coords t)) e8
  have hcanon9 := column_at (k0_off9_inb (grid0.coords t)) e9
  have hcanon10 := part_at (k0_off10_inb (grid0.coords t)) e10
  have hcanon11 := column_at (k0_off11_inb (grid0.coords t)) e11
  have hcanon12 := part_at (k0_off12_inb (grid0.coords t)) e12
  have hcanon13 := column_at (k0_off13_inb (grid0.coords t)) e13
  unfold owns
  iintro ⟨⟨%f2, %hf2, H2⟩, ⟨%d3, %f3, -, H3⟩, ⟨%d4, %f4, -, H4⟩, ⟨%d5, %f5, -, H5⟩, HB, HW, Hk⟩
  obtain rfl := harg2.eq_unread hf2
  sl_exec (disch := first | sl_exact ho | sl_exact hf)
  ihave HL := (arrived c x t (blockOf t)) $$ [HB_dst0 HB_dst1 HB_dst2 HB_dst3 HB_dst4 HB_dst5]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    iexact HB_dst5
  sl_exec (disch := first | sl_exact ho | sl_exact hf)
  sl_step
  iapply Hk
  have hw : arg2.view.readAt (Elt F) (Rect.unit (s := S768x64) ![0, 0] S768x64.size inb_S768x64_S768x64_0_0).toLoadRect (harg2.unread w) = w := reloaded harg2 w zero2 _
  isplitl [H2]
  · iexists (harg2.unread w); isplitr
    · ipureintro; exact hf2
    iexact H2
  ihave G3 := (owns_stored c arg3 f3 _ zero2 (congrArg (k0_pay5 (rows c x t)) hw)) $$ H3
  ihave G4 := (owns_stored c arg4 f4 _ zero2 (congrArg (k0_pay6 (rows c x t)) hw)) $$ H4
  isplitl [G3]; · iexact G3
  isplitl [G4]; · iexact G4
  isplitl [H5]
  · iapply (owns_stored c arg5 f5 inb_S4096x1_S4096x1_0_0 zero2 (congrArg (k0_pay7 (rows c x t)) hw)); iexact H5
  isplitr [HW]
  · isplitl [HB_src0 HB_src1 HB_src2 HB_src3 HB_src4 HB_src5]
    · isplitl [HB_src0]; · iexact HB_src0
      isplitl [HB_src1]; · iexact HB_src1
      isplitl [HB_src2]; · iexact HB_src2
      isplitl [HB_src3]; · iexact HB_src3
      isplitl [HB_src4]; · iexact HB_src4
      iexact HB_src5
    isplitl [HB]; · iexact HB
    iexists full c x (slotOf t) (blockOf t)
    iapply (reread c t (full c x (slotOf t) (blockOf t))); iexact HL
  iexists _; iexact HW

end Cert.KernelIdeal.Router
-- ==== Proof.Router.Launch.lean ====
/- The whole launch: from the runs of the body at the three kinds of point to a run of the program, whose two argument
   arrays end as they began and whose semaphores end at zero, with each result block known in closed form: the block of
   point `t` is what the kernel's arithmetic makes of rows `4096 t … 4096 t + 4095` of the activations. -/
module

public import proofs.«01_k».proof.Proof.Router.RunFirst
public import proofs.«01_k».proof.Proof.Router.RunSteady
public import proofs.«01_k».proof.Proof.Router.RunTail
public import proofs.«01_k».proof.Proof.Gen.KernelIdeal.Frame
public import Idealize.ShloMosaic.Lib.Claim

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The activations as the region finds them on core `c`. -/
abbrev given (c : Dev nD) : Acts F c := V m c main_arg0

/-- What the body leaves in each window's buffer at point `t`, and what is held between points: the traffic of blocks and
    slots, and the generator's register, which the kernel does not touch. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => k0_pay5 (rows c (given m c) t) (iblk m c 0 t)
    | ⟨2, _⟩ => k0_pay6 (rows c (given m c) t) (iblk m c 0 t)
    | ⟨3, _⟩ => k0_pay7 (rows c (given m c) t) (iblk m c 0 t)
  Φ t := iprop(flow c (given m c) t.val ∗ ∃ r, prngReg c r)
  q _ := fullShare
  owed _ := 0

theorem data_A (c : Dev nD) (w : Fin cfg0.W) : (data m 0 c).A w = V m c (Pipeline.arrRef spec0 w) := by
  dsimp only [data]

/-- The router matrix is brought in once and every point finds it. -/
theorem found (c : Dev nD) (t : Fin cfg0.N) (d) : (data m 0 c).before 0 t d = iblk m c 0 t := by
  refine ((data m 0 c).before_in_eq_fetched 0 rfl (fun _ => rfl) (fun _ _ _ => rfl) (fun t => ?_) t d).trans ?_
  · show iblk m c 0 t = _
    unfold Dat.blockOf iblk; rw [data_A]
  · unfold Dat.fetched Dat.blockOf iblk; rw [data_A]; rfl

section body

/-- What the body is called with at point `t`, -/
def before (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d)))

/-- and what it gives back. -/
def after (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t))

/-- A point of the grid, given what its body takes from the traffic and gives back to it. -/
theorem point_of (c : Dev nD) (t : Fin cfg0.N) (Take Give : sProp 𝕄)
    (split : flow c (given m c) t.val ⊢ iprop(Take ∗ (Give -∗ flow c (given m c) (t.val + 1))))
    (run : ∀ (W : Waits sig Unit) (K : PUnit → sProp 𝕄),
      iprop(owns (c : Thread nD τ) (win0_0.stage (cfg0.slots t 0)) fullShare (iblk m c 0 t)
        ∗ (∃ d, owns (c : Thread nD τ) (win0_1.stage (cfg0.slots t 1)) fullShare d) ∗ (∃ d, owns (c : Thread nD τ) (win0_2.stage (cfg0.slots t 2)) fullShare d)
        ∗ (∃ d, owns (c : Thread nD τ) (win0_3.stage (cfg0.slots t 3)) fullShare d) ∗ Take ∗ owes (c : Thread nD τ) 0 W
        ∗ (iprop(owns (c : Thread nD τ) (win0_0.stage (cfg0.slots t 0)) fullShare (iblk m c 0 t)
            ∗ owns (c : Thread nD τ) (win0_1.stage (cfg0.slots t 1)) fullShare (k0_pay5 (rows c (given m c) t) (iblk m c 0 t))
            ∗ owns (c : Thread nD τ) (win0_2.stage (cfg0.slots t 2)) fullShare (k0_pay6 (rows c (given m c) t) (iblk m c 0 t))
            ∗ owns (c : Thread nD τ) (win0_3.stage (cfg0.slots t 3)) fullShare (k0_pay7 (rows c (given m c) t) (iblk m c 0 t))
            ∗ Give ∗ ∃ W', owes (c : Thread nD τ) 0 W') -∗ K ⟨⟩))
        ⊢ wp frame (wpE (defs₀ (F := F)) Variants.none c none) Set.univ (bodyAt0 t) K) :
    before m c t ⊢ wp frame (wpE (defs₀ (F := F)) Variants.none c none) Set.univ (bodyAt0 t) (fun _ => after m c t) := by
  unfold before after
  simp only [found]
  rw [show (data m 0 c).after 0 t = iblk m c 0 t from rfl, show (data m 0 c).after 1 t = k0_pay5 (rows c (given m c) t) (iblk m c 0 t) from rfl,
    show (data m 0 c).after 2 t = k0_pay6 (rows c (given m c) t) (iblk m c 0 t) from rfl, show (data m 0 c).after 3 t = k0_pay7 (rows c (given m c) t) (iblk m c 0 t) from rfl,
    show (data m 0 c).Φ t.castSucc = iprop(flow c (given m c) t.val ∗ ∃ r, prngReg c r) from rfl,
    show (data m 0 c).Φ t.succ = iprop(flow c (given m c) (t.val + 1) ∗ ∃ r, prngReg c r) from rfl]
  unfold Dat.owesAt Pipeline.owesWithin
  rw [show (data m 0 c).owed t.castSucc = 0 from rfl, show (data m 0 c).owed t.succ = 0 from rfl]
  iintro ⟨⟨HF, HG⟩, ⟨%W, -, HW⟩, ⟨%d0, H0⟩, ⟨%d1, H1⟩, ⟨%d2, H2⟩, ⟨%d3, H3⟩⟩
  ihave HT := split $$ HF
  icases HT with ⟨HT, HR⟩
  iapply (run W _)
  isplitl [H0]; · iexact H0
  isplitl [H1]; · iexists _; iexact H1
  isplitl [H2]; · iexists _; iexact H2
  isplitl [H3]; · iexists _; iexact H3
  isplitl [HT]; · iexact HT
  isplitl [HW]; · iexact HW
  iintro ⟨H0, H1, H2, H3, HN, %W', HW⟩
  isplitl [HN HR HG]
  · isplitr [HG]
    · iapply HR; iexact HN
    iexact HG
  isplitl [HW]
  · iexists W'; isplitr; · ipureintro; exact fun _ _ => Or.inl trivial
    iexact HW
  isplitl [H0]; · iexact H0
  isplitl [H1]; · iexact H1
  isplitl [H2]; · iexact H2
  iexact H3

/-- The body at every point. -/
theorem point (c : Dev nD) (t : Fin cfg0.N) :
    before m c t ⊢ wp frame (wpE (defs₀ (F := F)) Variants.none c none) Set.univ (bodyAt0 t) (fun _ => after m c t) := by
  have hN : t.val < 8 := lt_of_lt_of_eq t.isLt N_0
  by_cases h0 : t.val = 0
  · have hs : slotOf t = 0 := by show Fin.ofNat 3 t.val = 0; rw [h0]; rfl
    have hb : blockOf t = 0 := by show Fin.ofNat 8 t.val = 0; rw [h0]; rfl
    have ha : aheadOf t = 3 := by show Fin.ofNat 8 (t.val + 3) = 3; rw [h0]; rfl
    have split := flow_first c (given m c)
    refine point_of m c t iprop((home c (given m c) (blockOf t) ∗ home c (given m c) 1 ∗ home c (given m c) 2 ∗ home c (given m c) (aheadOf t))
        ∗ (free c (slotOf t) ∗ free c 1 ∗ free c 2))
      iprop(home c (given m c) (blockOf t) ∗ flight c (given m c) 1 1 ∗ flight c (given m c) 2 2 ∗ flight c (given m c) (slotOf t) (aheadOf t)) ?_ fun W K => ?_
    · rw [hs, hb, ha, h0]
      refine split.trans ?_
      iintro ⟨HA, HB, HC⟩
      isplitl [HA HB]
      · isplitl [HA]; · iexact HA
        iexact HB
      iexact HC
    · refine BIBase.Entails.trans ?_ (run_first c (given m c) t h0 ((opens_iff t).mpr h0) ((feeds_iff t).mpr (by omega)) _ _ _ _ _ _ _ _ (iblk m c 0 t) W K)
      iintro ⟨H0, H1, H2, H3, ⟨HT, HU⟩, HR⟩
      isplitl [H0]; · iexact H0
      isplitl [H1]; · iexact H1
      isplitl [H2]; · iexact H2
      isplitl [H3]; · iexact H3
      isplitl [HT]; · iexact HT
      isplitl [HU]; · iexact HU
      iexact HR
  · by_cases h1 : t.val + 3 < 8
    · refine point_of m c t iprop(flight c (given m c) (slotOf t) (blockOf t) ∗ home c (given m c) (aheadOf t))
        iprop(home c (given m c) (blockOf t) ∗ flight c (given m c) (slotOf t) (aheadOf t)) ?_ fun W K => ?_
      · refine (flow_steady c (given m c) t.val (by omega) h1).trans ?_
        iintro ⟨HA, HB, HC⟩
        isplitl [HA HB]
        · isplitl [HA]; · iexact HA
          iexact HB
        iexact HC
      · refine BIBase.Entails.trans ?_ (run_steady c (given m c) t (fun h => h0 ((opens_iff t).mp h)) ((feeds_iff t).mpr h1) _ _ _ _ _ _ _ _ (iblk m c 0 t) W K)
        iintro ⟨H0, H1, H2, H3, ⟨HT, HU⟩, HR⟩
        isplitl [H0]; · iexact H0
        isplitl [H1]; · iexact H1
        isplitl [H2]; · iexact H2
        isplitl [H3]; · iexact H3
        isplitl [HT]; · iexact HT
        isplitl [HU]; · iexact HU
        iexact HR
    · exact point_of m c t _ _ (flow_tail c (given m c) t.val (by omega) h1 hN) fun W K =>
        run_tail c (given m c) t (fun h => h0 ((opens_iff t).mp h)) (fun h => h1 ((feeds_iff t).mp h)) _ _ _ _ _ _ _ _ (iblk m c 0 t) W K

theorem obligation (c : Dev nD) : BodyObligation (data (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (point m c t) rfl .rfl fun _ => .rfl

end body

section launch

/-- The kernel's own semaphores: one per slot. -/
abbrev ownSems : Fin 3 → SemLoc sig := fun j => (![SemLoc.dma 7, SemLoc.dma 8, SemLoc.dma 9] : Fin 3 → SemLoc sig) j
theorem ownSems_facts : Pipeline.OwnSemFacts spec0 ownSems := by decide
/-- The array the body reads by transfers of its own: the activations. -/
def moved : Finset (Ref sig .tc) := {main_arg0}
theorem moved_sub : moved ⊆ Pipeline.restRefs sig spec0 := by decide

/-- What the launch hands over: the scratch, the register, the semaphores at zero and the activations. -/
theorem handed (c : Dev nD) :
    (Pipeline.ΦD ownSems spec0 moved (V m) c : sProp 𝕄)
      = iprop((∃ e, ring.view.loc (c : Thread nD τ) ↦{fullShare} e) ∗ (∃ r, prngReg c r)
        ∗ (semVal ((c : Thread nD τ), SemLoc.dma 7) 0 ∗ semVal ((c : Thread nD τ), SemLoc.dma 8) 0 ∗ semVal ((c : Thread nD τ), SemLoc.dma 9) 0)
        ∗ acts.view.loc (c : Thread nD τ) ↦{fullShare} given m c) := by
  rw [Pipeline.ΦD_eq, scopedRest0_eq, Pipeline.ownSems0_eq_of_list c ownSems [0, 1, 2] (by decide) (by decide),
    show moved = {main_arg0} from rfl, bigSep_singleton]
  rfl

theorem handed_in (c : Dev nD) : Pipeline.ΦD ownSems spec0 moved (V m) c ⊢ (data m 0 c).Φ 0 := by
  rw [handed, show (data m 0 c).Φ 0 = iprop(flow c (given m c) 0 ∗ ∃ r, prngReg c r) from rfl]
  iintro ⟨HR, HG, HS, HA⟩
  isplitr [HG]
  · iapply (flow_in c (given m c) 0 (Or.inl rfl))
    isplitl [HR]; · iexact HR
    isplitl [HS]; · iexact HS
    iexact HA
  iexact HG

theorem handed_out (c : Dev nD) : (data m 0 c).Φ (Fin.last cfg0.N) ⊢ Pipeline.ΦD ownSems spec0 moved (V m) c := by
  rw [handed, show (data m 0 c).Φ (Fin.last cfg0.N) = iprop(flow c (given m c) grid0.N ∗ ∃ r, prngReg c r) from rfl]
  iintro ⟨HF, HG⟩
  ihave HO := (flow_out c (given m c) grid0.N (Or.inr (le_of_eq N_0.symm))) $$ HF
  icases HO with ⟨HR, HS, HA⟩
  isplitl [HR]; · iexact HR
  isplitl [HG]; · iexact HG
  isplitl [HS]; · iexact HS
  iexact HA

set_option maxHeartbeats 800000 in
theorem prefix_run (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The program runs; its windows' arrays end with the blocks the points left, the others as they were, every semaphore at zero. -/
theorem run_all : θ_run defs (onTc (τ := τ) (main (F := F))) (s₀ m ρ) (fun r => (Pipeline.FramePost cfgs (data m) 0 (V m)) r ∧ r.2.sem = fun _ => 0) :=
  Pipeline.θ_run_frame_dma (Q' := _) cfgs (data m) (0 : Fin 1) launch0 ownSems defs₀ Variants.none ownSems_facts moved moved_sub m ρ main
    (hbody := fun c => (obligation m c).loose) (hshare := fun c => (data m 0 c).share_full fun _ => rfl)
    (howed := fun _ _ => rfl) (V := V m) (hmain := prefix_run m Variants.none) (hA := data_A m) (hin := handed_in m) (hout := handed_out m)

/-- The two arguments end as they began. -/
theorem arguments_kept {r : _} (h : Pipeline.FramePost cfgs (data m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

/-- The frame, at any reading of the floating-point numbers. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨arguments_kept m h.1, h.2⟩) (run_all m ρ)

end launch

end Cert.KernelIdeal.Router
-- ==== Proof.Router.Row.lean ====
/- One row of logits, as mathematics: its greatest element, its softmax, the softmax's greatest value and the first place
   that value is attained, in the kernel's form and in the reference's. On a row of real numbers the two forms agree. -/
module

public import Idealize.ShloMosaic.PureOps.Ideal
public import Idealize.ShloMosaic.Lib.ValueIdxCore

@[expose] public section

noncomputable section

namespace Router

open Idealize.ShloMosaic

/-- A row of logits, one for each expert. -/
abbrev Row : Type := Fin 64 → EReal

/-- The logits of row `p`: the row of activations against each expert's row of the router matrix. -/
def rowOf {n : Nat} (x : (⟨2, ![n, 768]⟩ : Shape).Idx → EReal) (w : (⟨2, ![64, 768]⟩ : Shape).Idx → EReal) (p : Fin n) : Row :=
  fun q => ∑ k : Fin 768, x (ValueIdx.ix2 p k) * w (ValueIdx.ix2 q k)

/-- The greatest element. -/
def top (r : Row) : EReal := Finset.univ.fold max ⊥ r

/-- The exponential of an element less the greatest. -/
def expo (r : Row) (q : Fin 64) : EReal := Ideal.exp (r q - top r)

/-- The sum of the exponentials. -/
def total (r : Row) : EReal := ∑ q, expo r q

/-- The softmax. -/
def score (r : Row) : Row := fun q => Ideal.div (expo r q) (total r)

/-- The kernel's weight of the chosen expert: the greatest exponential is one. -/
def weight (r : Row) : EReal := Ideal.div 1 (total r)

/-- An expert's own number where its logit is greatest, else sixty-four. -/
def mark (r : Row) (q : Fin 64) : EReal := if r q = top r then ((q.val : ℝ) : EReal) else ((64 : ℝ) : EReal)

/-- The kernel's choice: the least mark. -/
def choice (r : Row) : BitVec 32 := Ideal.fptosi 32 (Finset.univ.fold min ⊤ (mark r))

/-- `q` is the first place the row's greatest element is attained. -/
def First (r : Row) (q : Fin 64) : Prop := r q = top r ∧ ∀ k, r k = top r → q ≤ k

theorem First.unique {r : Row} {q k : Fin 64} (hq : First r q) (hk : First r k) : q = k :=
  le_antisymm (hq.2 k hk.1) (hk.2 q hq.1)

theorem le_top (r : Row) (q : Fin 64) : r q ≤ top r := (Finset.le_fold_max _).2 (.inr ⟨q, Finset.mem_univ q, le_rfl⟩)

theorem top_le {r : Row} {b : EReal} (h : ∀ q, r q ≤ b) : top r ≤ b := (Finset.fold_max_le _).2 ⟨bot_le, fun q _ => h q⟩

theorem exists_top (r : Row) : ∃ q, r q = top r := by
  rcases (Finset.le_fold_max (top r)).1 (le_refl (Finset.univ.fold max ⊥ r)) with h | ⟨q, -, h⟩
  · exact ⟨0, le_antisymm (le_top r 0) (h.trans bot_le)⟩
  · exact ⟨q, le_antisymm (le_top r q) h⟩

/-- A number at least every element, and itself one, is the greatest. -/
theorem top_eq {r : Row} {q : Fin 64} (h : ∀ k, r k ≤ r q) : top r = r q := le_antisymm (top_le h) (le_top r q)

/-- The kernel's choice is the first place. -/
theorem choice_eq {r : Row} {q : Fin 64} (h : First r q) : choice r = BitVec.ofNat 32 q.val := by
  have hmin : Finset.univ.fold min ⊤ (mark r) = ((q.val : ℝ) : EReal) := by
    refine le_antisymm ((Finset.fold_min_le _).2 (.inr ⟨q, Finset.mem_univ q, ?_⟩)) ((Finset.le_fold_min _).2 ⟨_root_.le_top, fun k _ => ?_⟩)
    · rw [mark, if_pos h.1]
    · unfold mark
      split
      · next hk => exact EReal.coe_le_coe_iff.2 (Nat.cast_le.2 (h.2 k hk))
      · exact EReal.coe_le_coe_iff.2 (by exact_mod_cast q.isLt.le)
  have hq := q.isLt
  rw [choice, hmin, Ideal.fptosi, Ideal.toIntClamped_coe, if_pos (Nat.cast_nonneg _), Int.floor_natCast, min_eq_right (by omega), max_eq_right (by omega),
    BitVec.ofInt_natCast]

/-! ### The reference's choice: a fold over the row's pairs of a score and a place -/

/-- The later of two pairs, unless the earlier has the greater score; on a tie, the lesser place. -/
def pick (a b : EReal × BitVec 32) : EReal × BitVec 32 :=
  if b.1 < a.1 then a else if a.1 = b.1 ∧ a.2.slt b.2 then a else b

/-- `a` is at least as good as `b`. -/
def Beats (a b : EReal × BitVec 32) : Prop := b.1 < a.1 ∨ (b.1 = a.1 ∧ a.2.toInt ≤ b.2.toInt)

theorem Beats.refl (a : EReal × BitVec 32) : Beats a a := .inr ⟨rfl, le_rfl⟩

theorem Beats.trans {a b c : EReal × BitVec 32} : Beats a b → Beats b c → Beats a c
  | .inl h, .inl k => .inl (k.trans h)
  | .inl h, .inr k => .inl (k.1.trans_lt h)
  | .inr h, .inl k => .inl (k.trans_eq h.1)
  | .inr h, .inr k => .inr ⟨k.1.trans h.1, h.2.trans k.2⟩

theorem pick_cases (a b : EReal × BitVec 32) : (pick a b = a ∨ pick a b = b) ∧ Beats (pick a b) a ∧ Beats (pick a b) b := by
  unfold pick
  split
  · next h => exact ⟨.inl rfl, .refl a, .inl h⟩
  · next h =>
    split
    · next k => exact ⟨.inl rfl, .refl a, .inr ⟨k.1.symm, (BitVec.slt_iff_toInt_lt.1 k.2).le⟩⟩
    · next k =>
      refine ⟨.inr rfl, ?_, .refl b⟩
      rcases lt_or_eq_of_le (not_lt.1 h) with h | h
      · exact .inl h
      · exact .inr ⟨h, not_lt.1 fun hlt => k ⟨h, BitVec.slt_iff_toInt_lt.2 hlt⟩⟩

/-- The fold's result is its start or one of the pairs, and is at least as good as each. -/
theorem foldl_pick (l : List (EReal × BitVec 32)) (a : EReal × BitVec 32) :
    (l.foldl pick a = a ∨ l.foldl pick a ∈ l) ∧ Beats (l.foldl pick a) a ∧ ∀ p ∈ l, Beats (l.foldl pick a) p := by
  induction l generalizing a with
  | nil => exact ⟨.inl rfl, .refl a, fun p hp => absurd hp List.not_mem_nil⟩
  | cons b l ih =>
    obtain ⟨hm, ha, hl⟩ := ih (pick a b)
    obtain ⟨pm, pa, pb⟩ := pick_cases a b
    simp only [List.foldl_cons, List.mem_cons]
    refine ⟨?_, ha.trans pa, ?_⟩
    · rcases hm with hm | hm
      · rw [hm]; exact pm.imp_right .inl
      · exact .inr (.inr hm)
    · rintro p (rfl | hp)
      · exact ha.trans pb
      · exact hl p hp

/-- Over the pairs of a row none of whose elements is `⊥`, in whatever order, the fold finds the first place of the greatest. -/
theorem foldl_first {r : Row} (hr : ∀ q, r q ≠ ⊥) {l : List (EReal × BitVec 32)}
    (hl : ∀ p, p ∈ l ↔ ∃ q : Fin 64, p = (r q, BitVec.ofNat 32 q.val)) :
    ∃ q, First r q ∧ (l.foldl pick (⊥, 0#32)).2 = BitVec.ofNat 32 q.val := by
  have toInt (q : Fin 64) : (BitVec.ofNat 32 q.val).toInt = q.val := by
    have := q.isLt
    rw [BitVec.toInt_eq_toNat_bmod, BitVec.toNat_ofNat, Int.bmod_def]; omega
  obtain ⟨hm, -, hb⟩ := foldl_pick l (⊥, 0#32)
  have hmem : l.foldl pick (⊥, 0#32) ∈ l := hm.resolve_left fun h => by
    rcases h ▸ hb _ ((hl _).2 ⟨0, rfl⟩) with h | h
    · exact not_lt_bot h
    · exact hr 0 h.1
  obtain ⟨q, hq⟩ := (hl _).1 hmem
  have hall (k : Fin 64) : r k < r q ∨ (r k = r q ∧ q ≤ k) := by
    have := hq ▸ hb _ ((hl _).2 ⟨k, rfl⟩)
    simpa only [Beats, toInt, Nat.cast_le, Fin.val_fin_le] using this
  have htop : top r = r q := top_eq fun k => (hall k).elim le_of_lt fun h => h.1.le
  refine ⟨q, ⟨htop.symm, fun k hk => ?_⟩, by rw [hq]⟩
  exact ((hall k).resolve_left fun h => h.ne (hk.trans htop)).2

/-! ### A row of real numbers -/

/-- The element is a real number. -/
def IsReal (x : EReal) : Prop := ∃ a : ℝ, x = a

theorem isReal_of_abs_lt {x : EReal} (h : max x (-x) < ⊤) : IsReal x := by
  cases x with
  | bot => simp at h
  | top => simp at h
  | coe a => exact ⟨a, rfl⟩

theorem IsReal.mul {x y : EReal} : IsReal x → IsReal y → IsReal (x * y)
  | ⟨a, ha⟩, ⟨b, hb⟩ => ⟨a * b, by rw [ha, hb, EReal.coe_mul]⟩

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem IsReal.sum {ι : Type} (s : Finset ι) {f : ι → EReal} (h : ∀ i, IsReal (f i)) : IsReal (∑ i ∈ s, f i) := by
  choose a ha using h
  exact ⟨∑ i ∈ s, a i, by rw [coe_sum]; exact Finset.sum_congr rfl fun i _ => ha i⟩

/-- On a row of reals the softmax is a row of reals, greatest where the row is, and there the kernel's weight. -/
theorem score_real {r : Row} (h : ∀ q, IsReal (r q)) :
    (∀ q, IsReal (score r q)) ∧ (∀ q, score r q ≤ weight r) ∧ ∀ q, score r q = weight r ↔ r q = top r := by
  choose a ha using h
  obtain ⟨p, hp⟩ := exists_top r
  have hle (q) : a q ≤ a p := by
    have := le_top r q
    rw [← hp, ha q, ha p] at this
    exact EReal.coe_le_coe_iff.1 this
  have hexp (q) : expo r q = (Real.exp (a q - a p) : ℝ) := by
    rw [expo, ← hp, ha q, ha p, ← EReal.coe_sub, Ideal.exp_coe]
  have htot : total r = (∑ q, Real.exp (a q - a p) : ℝ) := by
    rw [total, coe_sum]; exact Finset.sum_congr rfl fun q _ => hexp q
  have hpos : 0 < ∑ q, Real.exp (a q - a p) := Finset.sum_pos (fun q _ => Real.exp_pos _) ⟨0, Finset.mem_univ 0⟩
  have hinv := one_div_pos.2 hpos
  have hscore (q) : score r q = (Real.exp (a q - a p) * (1 / ∑ k, Real.exp (a k - a p)) : ℝ) := by
    rw [score, htot, hexp, Ideal.div_coe hpos.ne', EReal.coe_mul]
  have hweight : weight r = (1 / ∑ k, Real.exp (a k - a p) : ℝ) := by
    rw [weight, htot, Ideal.div_coe hpos.ne', one_mul]
  refine ⟨fun q => ⟨_, hscore q⟩, fun q => ?_, fun q => ?_⟩
  · rw [hscore, hweight, EReal.coe_le_coe_iff]
    exact mul_le_of_le_one_left hinv.le (Real.exp_le_one_iff.2 (sub_nonpos.2 (hle q)))
  · rw [hscore, hweight, EReal.coe_eq_coe_iff, ← hp, ha q, ha p, EReal.coe_eq_coe_iff, mul_eq_right₀ hinv.ne', Real.exp_eq_one_iff, sub_eq_zero]

/-- The greatest score is the kernel's weight. -/
theorem top_score {r : Row} (h : ∀ q, IsReal (r q)) : top (score r) = weight r := by
  obtain ⟨-, hle, heq⟩ := score_real h
  obtain ⟨p, hp⟩ := exists_top r
  rw [← (heq p).2 hp]
  exact top_eq fun k => ((heq p).2 hp).symm ▸ hle k

/-- The fold over the scores finds the kernel's choice. -/
theorem fold_choice {r : Row} (h : ∀ q, IsReal (r q)) {l : List (EReal × BitVec 32)}
    (hl : ∀ p, p ∈ l ↔ ∃ q : Fin 64, p = (score r q, BitVec.ofNat 32 q.val)) : (l.foldl pick (⊥, 0#32)).2 = choice r := by
  obtain ⟨hreal, -, heq⟩ := score_real h
  obtain ⟨q, hq, he⟩ := foldl_first (fun q => by obtain ⟨a, ha⟩ := hreal q; rw [ha]; exact EReal.coe_ne_bot a) hl
  rw [he]
  have := top_score h
  exact (choice_eq ⟨(heq q).1 (hq.1.trans this), fun k hk => hq.2 k (((heq k).2 hk).trans this.symm)⟩).symm

end Router
-- ==== Proof.Router.Whole.lean ====
/- The reference's results, row by row, over the extended reals: each is a function of the row's logits. -/
module

public import proofs.«01_k».proof.Proof.Router.Reference
public import proofs.«01_k».proof.Proof.Router.Row
public import Idealize.ShloMosaic.PureOps.Ideal.Laws
public import Idealize.ShloMosaic.Lib.IdealHost
public import Idealize.ShloMosaic.Lib.ValueIdx
public import Idealize.ShloMosaic.Lib.ValueLayout
public import Idealize.ShloMosaic.Lib.StackMember
public import Idealize.ShloMosaic.Lib.Pipeline.Value

@[expose] public section

set_option maxRecDepth 16384

noncomputable section

namespace Cert.ReferenceIdeal.Router

open Idealize.ShloMosaic Idealize.ShloMosaic.ValueIdx
open Cert.ReferenceIdeal.Gen _root_.Router

/-- A row of a matrix of one number per token and expert. -/
def rowAt (l : Vec Ideal S32768x64 .f32) (p : Fin 32768) : Row := fun q => l (ix2 p q)

theorem negInf : Ideal.ofBits .f32 0xFF800000#32 = ⊥ := by simp [Ideal.ofBits, Ideal.ieee]

/-- The reduction along a row, as a fact about the two shapes. -/
theorem reduces : S32768x64.Reduces [1] S32768 := by decide

/-- A row's entries are the matrix's entries over the row. -/
theorem lift_row (p : Fin 32768) (q : Fin 64) : reduces.lift (ix1 p) q = ix2 p q := by
  funext c; match c with | ⟨0, _⟩ => rfl | ⟨1, _⟩ => rfl

theorem comp_lift (l : Vec Ideal S32768x64 .f32) (p : Fin 32768) : l ∘ reduces.lift (ix1 p) = rowAt l p :=
  funext fun q => congrArg l (lift_row p q)

theorem logits_row (x : Vec Ideal S32768x768 .f32) (w : Vec Ideal S64x768 .f32) (p : Fin 32768) : rowAt (logits x w) p = rowOf x w p := by
  funext q
  exact (Idealize.ShloMosaic.StackMember.dotGeneral_plain_apply none x _ p q).trans
    (Finset.sum_congr rfl fun k _ => congrArg (x (ix2 p k) * ·) (transpose_ix2_apply (α := EReal) w transposes_S64x768_S768x64_1_0 k q))

theorem rowMax_apply (l : Vec Ideal S32768x64 .f32) (p : Fin 32768) : rowMax l (ix1 p) = top (rowAt l p) := by
  rw [rowMax, Host.reduce_eq_fold_single _ _ _ _ reduces, comp_lift]
  show Finset.univ.fold max (Ideal.ofBits .f32 0xFF800000#32) (rowAt l p) = _
  rw [negInf]; rfl

theorem column_apply {α : Type} (v : S32768.Idx → α) (p : Fin 32768) (q : Fin 1) :
    broadcastInDim S32768x1 ![0] bcast_S32768_S32768x1_0 v (ix2 p q) = v (ix1 p) :=
  broadcastInDim_apply _ _ v _ _ fun a => match a with | ⟨0, _⟩ => rfl

theorem along_apply (v : Vec Ideal S32768 .f32) (p : Fin 32768) (q : Fin 64) : along v (ix2 p q) = v (ix1 p) :=
  (broadcastInDim_apply _ _ _ _ (ix2 p 0) fun a => match a with | ⟨0, _⟩ => rfl | ⟨1, _⟩ => rfl).trans (column_apply v p 0)

theorem hostExp_apply {s : Shape} (v : FVec Ideal s .f32) (i : s.Idx) : Host.exp v i = Ideal.exp (v i) := rfl
theorem hostDivf_apply {s : Shape} (u v : FVec Ideal s .f32) (i : s.Idx) : Host.divf u v i = Ideal.div (u i) (v i) := rfl

theorem floor_apply (i : S32768.Idx) : broadcastInDim S32768 ![] bcast_S_S32768 (constant (F := Ideal) S_ .f32 0xFF800000#32) i = ⊥ :=
  (broadcastInDim_apply _ _ _ i ix0 fun a => a.elim0).trans negInf

theorem exps_apply (l : Vec Ideal S32768x64 .f32) (p : Fin 32768) (q : Fin 64) : exps l (ix2 p q) = expo (rowAt l p) q := by
  rw [exps, hostExp_apply, subf_apply, along_apply, maximumf_apply, floor_apply, max_eq_right bot_le, rowMax_apply, expo, rowAt]

theorem rowSum_apply (l : Vec Ideal S32768x64 .f32) (p : Fin 32768) : rowSum (exps l) (ix1 p) = total (rowAt l p) := by
  rw [rowSum, Host.reduceAdd, Ideal.hostReduceAdd_def, Ideal.hostReduceAdd_single _ reduces, constant_apply, Ideal.ofBits_zero_f32, zero_add]
  exact Finset.sum_congr rfl fun q _ => (congrArg _ (lift_row p q)).trans (exps_apply l p q)

theorem scores_row (l : Vec Ideal S32768x64 .f32) (p : Fin 32768) : rowAt (scores l) p = score (rowAt l p) := by
  funext q
  rw [score, rowAt, scores, hostDivf_apply, along_apply, exps_apply, rowSum_apply]

theorem weights_apply (s : Vec Ideal S32768x64 .f32) (p : Fin 32768) (q : Fin 1) : weights s (ix2 p q) = top (rowAt s p) :=
  (column_apply _ p q).trans (rowMax_apply s p)

/-- Over the extended reals, where every number equals itself, the reference's comparison of two pairs is the better of the two. -/
theorem reducer_eq : reducer_argmax_f32_i32 (F := Ideal) = pick := by
  funext a b
  show (Scalar.select (BitVec.ofBool (decide (a.1 > b.1)) ||| BitVec.ofBool (decide (a.1 ≠ a.1))) a.1 b.1,
    Scalar.select ((BitVec.ofBool (decide (a.1 > b.1)) ||| BitVec.ofBool (decide (a.1 ≠ a.1)))
      ||| (BitVec.ofBool (decide (a.1 = b.1)) &&& BitVec.ofBool (a.2.slt b.2))) a.2 b.2) = _
  unfold pick
  by_cases h : b.1 < a.1
  · simp [h, h.ne', Scalar.select]
  · by_cases k : a.1 = b.1
    · by_cases u : a.2.slt b.2 = true
      · simp [k, u, Scalar.select, Prod.ext_iff]
      · simp [k, u, Scalar.select, Prod.ext_iff]
    · simp [h, k, Scalar.select]

/-- The pairs the reference folds over at row `p` are the row's scores with their places. -/
theorem mem_fiber (s : Vec Ideal S32768x64 .f32) (p : Fin 32768) (z : EReal × BitVec 32) :
    z ∈ Host.argReduceFiber s (iotaInDim S32768x64 32 1) reducesTo_S32768x64_S32768_d1 (ix1 p) ↔ ∃ q : Fin 64, z = (rowAt s p q, BitVec.ofNat 32 q.val) := by
  simp only [Host.argReduceFiber, List.mem_map, List.mem_filter, List.mem_finRange, true_and, decide_eq_true_eq]
  constructor
  · rintro ⟨n, hn, rfl⟩
    refine ⟨S32768x64.rowMajor.symm n 1, ?_⟩
    have : S32768x64.rowMajor.symm n = ix2 p (S32768x64.rowMajor.symm n 1) := by
      refine .trans ?_ (lift_row p _)
      rw [← hn]; exact (reduces.lift_drop _).symm
    exact Prod.ext (congrArg s this) rfl
  · rintro ⟨q, rfl⟩
    refine ⟨S32768x64.rowMajor (ix2 p q), ?_, ?_⟩
    · rw [Equiv.symm_apply_apply]; exact (congrArg _ (lift_row p q).symm).trans (reduces.drop_lift _ _)
    · rw [Equiv.symm_apply_apply]; rfl

theorem choices_apply (l : Vec Ideal S32768x64 .f32) (p : Fin 32768) (q : Fin 1) (h : ∀ k, IsReal (rowAt l p k)) :
    choices (scores l) (ix2 p q) = choice (rowAt l p) := by
  refine (column_apply _ p q).trans ?_
  rw [Ideal.argReduce_eq_reduce2, Host.reduce2_eq_foldl_fiber, reducer_eq]
  show (List.foldl pick (Ideal.ofBits .f32 0xFF800000#32, 0#32) _).2 = _
  rw [negInf]
  exact fold_choice h fun z => by rw [mem_fiber, scores_row]

end Cert.ReferenceIdeal.Router
-- ==== Proof.Router.Block.lean ====
/- The kernel's arithmetic on one block, row by row, over the extended reals: each of the three results is the same
   function of the row's logits whatever the block is. -/
module

public import proofs.«01_k».proof.Proof.Gen.KernelIdeal.Skeleton
public import proofs.«01_k».proof.Proof.Router.Row
public import Idealize.ShloMosaic.PureOps.Ideal.Laws
public import Idealize.ShloMosaic.Lib.IdealHost
public import Idealize.ShloMosaic.Lib.MatmulPlain
public import Idealize.ShloMosaic.Lib.ValueIdx
public import Idealize.ShloMosaic.Lib.ValueLayout
public import Idealize.ShloMosaic.Lib.Pipeline.Value

@[expose] public section

set_option maxRecDepth 16384

noncomputable section

namespace Cert.KernelIdeal.Router

open Idealize.ShloMosaic Idealize.ShloMosaic.ValueIdx
open Cert.KernelIdeal.Gen _root_.Router

section
variable (v : Vec Ideal S1x4096x768 .f32) (u : Vec Ideal S768x64 .f32) (p : Fin 4096)

/-- The logits of row `p` of a block of activations, against the transposed router matrix. -/
def blockRow : Row := fun q => ∑ k : Fin 768, v (ix3 (0 : Fin 1) p k) * u (ix2 k q)

theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]
theorem ofBits_sixtyFour : Ideal.ofBits .f32 0x42800000#32 = ((64 : ℝ) : EReal) := by
  simp [Ideal.ofBits, Ideal.ieee, -EReal.coe_mul]; norm_num

theorem lift_block (q : Fin 64) : (reduces_S4096x64_S4096 : S4096x64.Reduces [1] S4096).lift (ix1 p) q = ix2 p q := by
  funext c; match c with | ⟨0, _⟩ => rfl | ⟨1, _⟩ => rfl

theorem comp_lift_block (l : Vec Ideal S4096x64 .f32) :
    l ∘ (reduces_S4096x64_S4096 : S4096x64.Reduces [1] S4096).lift (ix1 p) = fun q : Fin 64 => l (ix2 p q) :=
  funext fun q => congrArg l (lift_block p q)

/-- A vector as a column. -/
theorem asColumn_apply {α : Type} (y : S4096.Idx → α) (z : Fin 1) : shapeCast S4096x1 y shapeCasts_S4096_S4096x1 (ix2 p z) = y (ix1 p) :=
  shapeCast_apply y _ _ _ (by
    rw [Shape.rowMajor_val_one, Shape.rowMajor_val_two]
    show p.val = p.val * 1 + z.val
    have := z.isLt; omega)

/-- A column laid along the rows. -/
theorem spread_apply {α : Type} (y : S4096x1.Idx → α) (q : Fin 64) : broadcastTo S4096x64 y broadcasts_S4096x1_S4096x64 (ix2 p q) = y (ix2 p 0) :=
  broadcastTo_apply y _ _ _ fun a => match a with | ⟨0, _⟩ => rfl | ⟨1, _⟩ => rfl

/-- The three reductions of a block along its rows. -/
theorem rowTop_apply (l : FVec Ideal S4096x64 .f32) (hφ : FKind.Formats .f32) (hacc : (0xFF800000#32 : BitVec 32) = FKind.maximumf.neutral .f32 hφ) :
    multiReduction .maximumf [1] S4096 l 0xFF800000#32 reduces_S4096x64_S4096 hφ hacc (ix1 p) = top fun q => l (ix2 p q) := by
  refine (Ideal.multiReduction_maximumf_single l _ reduces_S4096x64_S4096 hφ hacc (ix1 p)).trans ?_
  rw [comp_lift_block]
  exact congrArg (fun e => Finset.univ.fold max e fun q : Fin 64 => l (ix2 p q)) ofBits_negInf
theorem rowSum_apply (l : FVec Ideal S4096x64 .f32) (hφ : FKind.Formats .f32) (hacc : (0x00000000#32 : BitVec 32) = FKind.add.neutral .f32 hφ) :
    multiReduction .add [1] S4096 l 0x00000000#32 reduces_S4096x64_S4096 hφ hacc (ix1 p) = ∑ q : Fin 64, l (ix2 p q) :=
  (Ideal.multiReduction_add_single l _ reduces_S4096x64_S4096 hφ hacc (ix1 p)).trans (Finset.sum_congr rfl fun q _ => congrArg l (lift_block p q))
theorem rowLeast_apply (l : FVec Ideal S4096x64 .f32) (hφ : FKind.Formats .f32) (hacc : (0x7F800000#32 : BitVec 32) = FKind.minimumf.neutral .f32 hφ) :
    multiReduction .minimumf [1] S4096 l 0x7F800000#32 reduces_S4096x64_S4096 hφ hacc (ix1 p) = Finset.univ.fold min ⊤ fun q : Fin 64 => l (ix2 p q) := by
  refine (multiReduction_minimumf_eq_fold l _ reduces_S4096x64_S4096 hφ hacc (ix1 p)).trans
    ((Shape.Reduces.fold_filter_drop_single reduces_S4096x64_S4096 _ _ l (ix1 p)).trans ?_)
  rw [comp_lift_block]
  exact congrArg (fun e => Finset.univ.fold min e fun q : Fin 64 => l (ix2 p q)) ofBits_posInf

theorem pay1_apply (q : Fin 64) : k0_pay1 v u (ix2 p q) = blockRow v u p q := by
  unfold k0_pay1
  refine (Ideal.matmul_plain_apply none _ _ _ p q).trans ?_
  rw [constant_apply, Ideal.ofBits_zero_f32, zero_add, shapeCast_self]
  exact Finset.sum_congr rfl fun k _ => congrArg (· * u (ix2 k q)) (shapeCast_1ab_ab_apply (α := EReal) v shapeCasts_S1x4096x768_S4096x768 p k)

theorem pay1_row : (fun q : Fin 64 => k0_pay1 v u (ix2 p q)) = blockRow v u p := funext fun q => pay1_apply v u p q

theorem pay2_apply (z : Fin 1) : k0_pay2 v u (ix2 p z) = top (blockRow v u p) := by
  unfold k0_pay2
  exact (asColumn_apply p _ z).trans ((rowTop_apply p _ _ _).trans (congrArg top (pay1_row v u p)))

theorem exp_apply {s : Shape} (y : FVec Ideal s .f32) (i : s.Idx) : exp y i = Ideal.exp (y i) := rfl

theorem pay3_apply (q : Fin 64) : k0_pay3 v u (ix2 p q) = expo (blockRow v u p) q := by
  rw [k0_pay3, exp_apply, subf_apply, spread_apply, pay1_apply, pay2_apply, expo]

theorem pay4_apply (z : Fin 1) : k0_pay4 v u (ix2 p z) = total (blockRow v u p) := by
  unfold k0_pay4
  exact (asColumn_apply p _ z).trans ((rowSum_apply p _ _ _).trans (Finset.sum_congr rfl fun q _ => pay3_apply v u p q))

/-- The first result: the softmax. -/
theorem pay5_apply (q : Fin 64) : k0_pay5 v u (ix2 p q) = score (blockRow v u p) q := by
  rw [k0_pay5, divf_apply, spread_apply, pay3_apply, pay4_apply, score]

/-- The second result: one over the sum of the exponentials. -/
theorem pay6_apply (z : Fin 1) : k0_pay6 v u (ix2 p z) = weight (blockRow v u p) := by
  rw [k0_pay6, divf_apply, pay4_apply, broadcast_apply, weight]
  exact congrArg (Ideal.div · _) Ideal.ofBits_one_f32

/-- What the kernel takes the least of: the expert's number where its logit is greatest, else sixty-four. -/
theorem marked_apply (q : Fin 64) :
    select (cmpf .oeq (k0_pay1 v u) (broadcastTo S4096x64 (k0_pay2 v u) broadcasts_S4096x1_S4096x64))
      (sitofp .f32 (iota .tc S4096x64 32 [1] iota_S4096x64_d1_w32)) (broadcast S4096x64 (Scalar.ofBits (F := Ideal) .f32 0x42800000#32)) (ix2 p q)
      = mark (blockRow v u p) q := by
  rw [select_apply, cmpf_apply, spread_apply, pay1_apply, pay2_apply, sitofp_apply, broadcast_apply, mark]
  show Scalar.select (BitVec.ofBool (decide (blockRow v u p q = top (blockRow v u p)))) (((BitVec.ofNat 32 (0 * 64 + q.val)).toInt : ℝ) : EReal) (Ideal.ofBits .f32 0x42800000#32) = _
  have hq : (BitVec.ofNat 32 (0 * 64 + q.val)).toInt = q.val := by
    have := q.isLt
    rw [BitVec.toInt_eq_toNat_bmod, BitVec.toNat_ofNat, Int.bmod_def]; omega
  rw [hq, ofBits_sixtyFour]
  by_cases h : blockRow v u p q = top (blockRow v u p)
  · rw [if_pos h, decide_eq_true h]; rfl
  · rw [if_neg h, decide_eq_false h]; rfl

theorem fptosi_apply {s : Shape} (y : FVec Ideal s .f32) (i : s.Idx) : fptosi 32 y i = Ideal.fptosi 32 (y i) := rfl

/-- The third result: the least mark, as a word. -/
theorem pay7_apply (z : Fin 1) : k0_pay7 v u (ix2 p z) = choice (blockRow v u p) := by
  unfold k0_pay7
  exact (fptosi_apply _ _).trans (congrArg (Ideal.fptosi 32) ((asColumn_apply p _ z).trans ((rowLeast_apply p _ _ _).trans
    (congrArg (Finset.univ.fold min ⊤) (funext fun q => marked_apply v u p q)))))

end

end Cert.KernelIdeal.Router
-- ==== Proof.Router.Arrays.lean ====
/- The kernel's results as whole arrays, over the extended reals: the block a point reads is its 4096 rows of the
   activations, so what it writes back is its rows of one function of the two arguments, and the eight blocks fill the
   arrays. -/
module

public import proofs.«01_k».proof.Proof.Router.Launch
public import proofs.«01_k».proof.Proof.Router.Block
public import Idealize.ShloMosaic.Lib.Pipeline.ValueKit.Geometry
public import Idealize.ShloMosaic.Lib.StableHlo.Run

@[expose] public section

set_option maxRecDepth 16384

noncomputable section

namespace Cert.KernelIdeal.Router

open Idealize.ShloMosaic
open Idealize.ShloMosaic.TcCoe Idealize.ShloMosaic.ValueIdx Idealize.SL.Sem
open Cert.KernelIdeal.Gen _root_.Router

/-! ### The block in the slot -/

section
variable {F : FTy → Type} [FloatOps F] (c : Dev nD) (x : Acts F c)

/-- Row `p` of block `b`, and lane `j` of part `w`. -/
abbrev rowIn (b : Fin 8) (p : Fin 4096) : Fin 32768 := ⟨4096 * b.val + p.val, by have := b.isLt; have := p.isLt; omega⟩
abbrev laneIn (w : Fin 6) (j : Fin 128) : Fin 768 := ⟨128 * w.val + j.val, by have := w.isLt; have := j.isLt; omega⟩

/-- Element `(p, j)` of a part is lane `laneIn w j` of row `p` of the slot; of a column, that lane of row `rowIn b p`. -/
theorem part_read (s : Fin 3) (w : Fin 6) (e : Scratch F c) (p : Fin 4096) (j : Fin 128) :
    (part s w).view.read (Elt F) e (ix2 p j) = (show S3x4096x768.Idx → Elt F .f32 from e) (ix3 s p (laneIn w j)) := by
  refine (congrFun (Memref.read_squeeze_slice ring _ (fun _ => rfl) squeezes_S1x4096x128_S4096x128 (show S1x4096x128.ShapeCasts S4096x128 by decide +kernel) e) (ix2 p j)).trans ?_
  refine (shapeCast_1ab_ab_apply (α := Elt F .f32) _ _ p j).trans ?_
  refine congrArg (show S3x4096x768.Idx → Elt F .f32 from e) (funext fun a => Fin.ext ?_)
  match a with
  | ⟨0, _⟩ => show s.val + 1 * 0 = s.val; omega
  | ⟨1, _⟩ => show 0 + 1 * p.val = p.val; omega
  | ⟨2, _⟩ => show 128 * w.val + 1 * j.val = 128 * w.val + j.val; omega
theorem column_read (b : Fin 8) (w : Fin 6) (p : Fin 4096) (j : Fin 128) :
    (column b w).view.read (Elt F) x (ix2 p j) = (show S32768x768.Idx → Elt F .f32 from x) (ix2 (rowIn b p) (laneIn w j)) := by
  refine congrArg (show S32768x768.Idx → Elt F .f32 from x) (funext fun a => Fin.ext ?_)
  match a with
  | ⟨0, _⟩ => show 4096 * b.val + 1 * p.val = 4096 * b.val + p.val; omega
  | ⟨1, _⟩ => show 128 * w.val + 1 * j.val = 128 * w.val + j.val; omega

/-- What arrived in a part of a slot is the column of the block, element for element; -/
theorem landed_apply (s : Fin 3) (b : Fin 8) (w : Fin 6) (p : Fin 4096) (j : Fin 128) :
    landed c x s b w (ix3 s p (laneIn w j)) = (show S32768x768.Idx → Elt F .f32 from x) (ix2 (rowIn b p) (laneIn w j)) :=
  (part_read c s w (landed c x s b w) p j).symm.trans
    ((congrFun (View.read_writes_whole (Val := Elt F) (part s w).view (part s w).view.junk ((column b w).view.read (Elt F) x)) (ix2 p j)).trans
      (column_read c x b w p j))
/-- a slot the block has arrived in holds the block; -/
theorem full_lane (s : Fin 3) (b : Fin 8) (p : Fin 4096) (w : Fin 6) (j : Fin 128) :
    full c x s b (ix3 s p (laneIn w j)) = (show S32768x768.Idx → Elt F .f32 from x) (ix2 (rowIn b p) (laneIn w j)) :=
  (full_on c x s b w (ix3 s p (laneIn w j)) (mem_partBox.mpr ⟨rfl, by
    show (128 * w.val + j.val) / 128 = w.val; have := j.isLt; omega⟩)).symm.trans (landed_apply c x s b w p j)
theorem full_apply (s : Fin 3) (b : Fin 8) (p : Fin 4096) (k : Fin 768) :
    full c x s b (ix3 s p k) = (show S32768x768.Idx → Elt F .f32 from x) (ix2 (rowIn b p) k) := by
  have hk := k.isLt
  have e : laneIn ⟨k.val / 128, by omega⟩ ⟨k.val % 128, by omega⟩ = k := Fin.ext (by show 128 * (k.val / 128) + k.val % 128 = k.val; omega)
  have h := full_lane c x s b p ⟨k.val / 128, by omega⟩ ⟨k.val % 128, by omega⟩
  rw [e] at h
  exact h
/-- and a point's load of its slot is its block. -/
theorem slot_read (t : Fin grid0.N) (e : Scratch F c) (p : Fin 4096) (k : Fin 768) :
    ring.view.readAt (Elt F) (Rect.unit (s := S3x4096x768) (k0_off14 (grid0.coords t)) S1x4096x768.size (k0_off14_inb (grid0.coords t))).toLoadRect e (ix3 (0 : Fin 1) p k)
      = (show S3x4096x768.Idx → Elt F .f32 from e) (ix3 (slotOf t) p k) := by
  refine congrArg (show S3x4096x768.Idx → Elt F .f32 from e) (funext fun a => Fin.ext ?_)
  have o := (wait_offsets t).2.2.2.2.2.2.2
  match a with
  | ⟨0, _⟩ => show k0_off14 (grid0.coords t) 0 + 1 * 0 = (slotOf t).val; rw [o]; rfl
  | ⟨1, _⟩ => show k0_off14 (grid0.coords t) 1 + 1 * p.val = p.val; rw [o]; show 0 + 1 * p.val = p.val; omega
  | ⟨2, _⟩ => show k0_off14 (grid0.coords t) 2 + 1 * k.val = k.val; rw [o]; show 0 + 1 * k.val = k.val; omega
theorem rows_apply (t : Fin grid0.N) (p : Fin 4096) (k : Fin 768) :
    rows c x t (ix3 (0 : Fin 1) p k) = (show S32768x768.Idx → Elt F .f32 from x) (ix2 (rowIn (blockOf t) p) k) :=
  (slot_read c t (full c x (slotOf t) (blockOf t)) p k).trans (full_apply c x (slotOf t) (blockOf t) p k)

end

/-! ### What a point writes, and the arrays -/

variable (m : (ℓ : Loc nD τ sig) → Buf (Elt Ideal) ℓ) (c : Dev nD)

/-- The two arguments on a core. -/
abbrev actsOf : S32768x768.Idx → EReal := m (c, main_arg0)
abbrev routerOf : S64x768.Idx → EReal := m (c, main_arg1)

theorem given_eq : given m c = m (c, main_arg0) := V_main_arg0 m c

/-- The kernel's second operand is the router matrix, transposed; every point sees all of it. -/
theorem turned (k : Fin 768) (q : Fin 64) : (show S768x64.Idx → EReal from V m c main_v0) (ix2 k q) = routerOf m c (ix2 q k) := by
  have h : V m c main_v0 = transpose S768x64 [1, 0] (routerOf m c) transposes_S64x768_S768x64_1_0 := by
    unfold V; after_results
  rw [h]
  exact transpose_ix2_apply (α := EReal) (routerOf m c) transposes_S64x768_S768x64_1_0 k q

theorem matrix_apply (t : Fin cfg0.N) (k : Fin 768) (q : Fin 64) : (show S768x64.Idx → EReal from iblk m c 0 t) (ix2 k q) = routerOf m c (ix2 q k) := by
  refine Eq.trans ?_ (turned m c k q)
  have e : ∀ t : Fin cfg0.N, win0_0.index t = ![0, 0] := (by decide +kernel : ∀ t : Fin grid0.N, _)
  show iblk m c 0 t (ix2 k q) = _
  blk_simp [iblk]
  refine congrArg (V m c main_v0) ?_
  blk_ext [e]

/-- So a point's rows of logits are its rows of the whole product. -/
theorem blockRow_eq (t : Fin cfg0.N) (p : Fin 4096) :
    blockRow (rows c (given m c) t) (iblk m c 0 t) p = rowOf (actsOf m c) (routerOf m c) (rowIn (blockOf t) p) := by
  funext q
  refine Finset.sum_congr rfl fun k _ => ?_
  refine congrArg₂ (· * ·) ((rows_apply c (given m c) t p k).trans ?_) (matrix_apply m c t k q)
  rw [given_eq]

/-- The three results, as functions of the two arguments: softmax, weight and choice of each row of logits. -/
abbrev rowsOf (p : Fin 32768) : Row := rowOf (actsOf m c) (routerOf m c) p
def scoreOf : S32768x64.Idx → EReal := fun i => score (rowsOf m c (i 0)) (i 1)
def weightOf : S32768x1.Idx → EReal := fun i => weight (rowsOf m c (i 0))
def choiceOf : S32768x1.Idx → BitVec 32 := fun i => choice (rowsOf m c (i 0))

/-- Row `p` of what point `t` writes is row `rowIn (blockOf t) p` of the result. -/
theorem index_row : ∀ t : Fin cfg0.N, win0_1.index t = ![(blockOf t).val, 0] ∧ win0_2.index t = ![(blockOf t).val, 0] ∧ win0_3.index t = ![(blockOf t).val, 0] :=
  (by decide +kernel : ∀ t : Fin grid0.N, _)

theorem point_score (t : Fin cfg0.N) (p : Fin 4096) (q : Fin 64) :
    k0_pay5 (rows c (given m c) t) (iblk m c 0 t) (ix2 p q) = scoreOf m c (ix2 (rowIn (blockOf t) p) q) :=
  (pay5_apply _ _ p q).trans (congrArg (score · q) (blockRow_eq m c t p))
theorem point_weight (t : Fin cfg0.N) (p : Fin 4096) (z : Fin 1) :
    k0_pay6 (rows c (given m c) t) (iblk m c 0 t) (ix2 p z) = weightOf m c (ix2 (rowIn (blockOf t) p) z) :=
  (pay6_apply _ _ p z).trans (congrArg weight (blockRow_eq m c t p))
theorem point_choice (t : Fin cfg0.N) (p : Fin 4096) (z : Fin 1) :
    k0_pay7 (rows c (given m c) t) (iblk m c 0 t) (ix2 p z) = choiceOf m c (ix2 (rowIn (blockOf t) p) z) :=
  (pay7_apply _ _ p z).trans (congrArg choice (blockRow_eq m c t p))

/-- The blocks fill the arrays. -/
theorem scores_array : (data m 0 c).arrAt 1 cfg0.N = scoreOf m c := by
  refine (data m 0 c).arrAt_eq_of_covers 1 (scoreOf m c) (by decide +kernel) fun t _ (y : S4096x64.Idx) => ?_
  blk_simp
  have e : (win0_1.blk t).view.emb y = (ix2 (rowIn (blockOf t) (y 0)) (y 1) : S32768x64.Idx) := by
    blk_ext [fun t => (index_row t).1]
  rw [e, eq_ix2 y]
  exact point_score m c t (y 0) (y 1)
theorem weights_array : (data m 0 c).arrAt 2 cfg0.N = weightOf m c := by
  refine (data m 0 c).arrAt_eq_of_covers 2 (weightOf m c) (by decide +kernel) fun t _ (y : S4096x1.Idx) => ?_
  blk_simp
  have e : (win0_2.blk t).view.emb y = (ix2 (rowIn (blockOf t) (y 0)) (y 1) : S32768x1.Idx) := by
    blk_ext [fun t => (index_row t).2.1]
  rw [e, eq_ix2 y]
  exact point_weight m c t (y 0) (y 1)
theorem choices_array : (data m 0 c).arrAt 3 cfg0.N = choiceOf m c := by
  refine (data m 0 c).arrAt_eq_of_covers 3 (choiceOf m c) (by decide +kernel) fun t _ (y : S4096x1.Idx) => ?_
  blk_simp
  have e : (win0_3.blk t).view.emb y = (ix2 (rowIn (blockOf t) (y 0)) (y 1) : S32768x1.Idx) := by
    blk_ext [fun t => (index_row t).2.2]
  rw [e, eq_ix2 y]
  exact point_choice m c t (y 0) (y 1)

/-- The kernel runs; its results are these functions of its arguments, which end as they began. -/
theorem run_values (ρ : Dev nD → PrngReg) :
    θ_run defs (onTc (τ := τ) (main (F := Ideal))) ⟨m, fun _ => 0, ρ⟩ fun r => ∀ c : Dev nD,
      r.2.mem ((c.tc : Thread nD τ).loc main_v1_0) = weightOf m c
      ∧ r.2.mem ((c.tc : Thread nD τ).loc main_v1_1) = choiceOf m c
      ∧ r.2.mem ((c.tc : Thread nD τ).loc main_v1_2) = scoreOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h.1 c).1 2).trans (weights_array m c), ((h.1 c).1 3).trans (choices_array m c),
    ((h.1 c).1 1).trans (scores_array m c), arguments_kept m h.1 c⟩) (run_all m ρ)

end Cert.KernelIdeal.Router
-- ==== Proof.Router.Same.lean ====
/- The reference's results are the kernel's: both are the same function of each row's logits. For the weight and the choice
   the row's logits must be real numbers. -/
module

public import proofs.«01_k».proof.Proof.Router.Whole
public import proofs.«01_k».proof.Proof.Router.Arrays

@[expose] public section

set_option maxRecDepth 16384

noncomputable section

namespace Cert.KernelIdeal.Router

open Idealize.ShloMosaic Idealize.ShloMosaic.ValueIdx Idealize.SL.Sem
open Cert.ReferenceIdeal.Router (logits scores weights choices rowAt logits_row scores_row weights_apply choices_apply)
open _root_.Router

variable (m : (ℓ : Loc nD τ sig) → Buf (Elt Ideal) ℓ) (c : Dev nD)

/-- The results of the reference at one row, as the kernel's arrays have them there; -/
theorem score_at (p : Fin 32768) (q : Fin 64) : scores (logits (F := Ideal) (actsOf m c) (routerOf m c)) (ix2 p q) = scoreOf m c (ix2 p q) :=
  (congrFun (scores_row (logits (F := Ideal) (actsOf m c) (routerOf m c)) p) q).trans (by rw [logits_row]; rfl)
theorem weight_at (h : ∀ p q, IsReal (rowsOf m c p q)) (p : Fin 32768) (z : Fin 1) :
    weights (scores (logits (F := Ideal) (actsOf m c) (routerOf m c))) (ix2 p z) = weightOf m c (ix2 p z) := by
  rw [weights_apply, scores_row, logits_row]
  exact top_score (h p)
theorem choice_at (h : ∀ p q, IsReal (rowsOf m c p q)) (p : Fin 32768) (z : Fin 1) :
    choices (scores (logits (F := Ideal) (actsOf m c) (routerOf m c))) (ix2 p z) = choiceOf m c (ix2 p z) := by
  rw [choices_apply, logits_row]
  · rfl
  · intro k; rw [logits_row]; exact h p k

/-- and so as whole arrays. -/
theorem scores_same : scores (logits (F := Ideal) (actsOf m c) (routerOf m c)) = scoreOf m c :=
  funext fun (i : S32768x64.Idx) => by rw [eq_ix2 i]; exact score_at m c (i 0) (i 1)
theorem weights_same (h : ∀ p q, IsReal (rowsOf m c p q)) : weights (scores (logits (F := Ideal) (actsOf m c) (routerOf m c))) = weightOf m c :=
  funext fun (i : S32768x1.Idx) => by rw [eq_ix2 i]; exact weight_at m c h (i 0) (i 1)
theorem choices_same (h : ∀ p q, IsReal (rowsOf m c p q)) : choices (scores (logits (F := Ideal) (actsOf m c) (routerOf m c))) = choiceOf m c :=
  funext fun (i : S32768x1.Idx) => by rw [eq_ix2 i]; exact choice_at m c h (i 0) (i 1)

end Cert.KernelIdeal.Router
-- ==== Proof.Router.Finite.lean ====
/- What the precondition says: that every element of the two arguments is a real number. -/
module

public import proofs.«01_k».proof.Pre_finite
public import proofs.«01_k».proof.Proof.Router.Row
public import Idealize.ShloMosaic.PureOps.Ideal.Laws
public import Idealize.ShloMosaic.Lib.IdealHost
public import Idealize.ShloMosaic.Lib.ReduceAll
public import Idealize.ShloMosaic.Lib.Affine
public import Idealize.ShloMosaic.Lib.Pipeline.Value

@[expose] public section

noncomputable section

namespace Cert.Pre_finite.Router

open Idealize.ShloMosaic Idealize.ShloMosaic.ValueIdx Cert.Pre_finite _root_.Router

/-- The shapes the precondition's operations are taken at fit. -/
theorem facts : Facts where
  bcast_S_S32768x768 := by decide
  reducesTo_S32768x768_S_d0_1 := by decide
  h_S_ := by decide
  bcast_S_S64x768 := by decide
  reducesTo_S64x768_S_d0_1 := by decide

instance : Subsingleton S_.Idx := ⟨fun a b => funext fun d => d.elim0⟩

theorem posInf : Ideal.ofBits .f32 0x7F800000#32 = ⊤ := by simp [Ideal.ofBits, Ideal.ieee]

/-- A truth value whose bit is one is true. -/
theorem bit_true : ∀ b : Bool, BitVec.ofBool b = 1#1 → b = true := by decide

/-- An array whose every magnitude is below infinity, by the conjunction of the comparisons, has only real elements. -/
theorem all_real {s : Shape} {axes : List (Fin s.rank)} (x : FVec Ideal s .f32) (b : S_.BroadcastsInDim s (![] : Fin 0 → Fin s.rank)) (hr : s.ReducesTo axes S_) (h0 : 0 < S_.numel) (o : S_.Idx)
    (h : Host.reduce IntOp.andi (cmpf .olt (Host.absf x) (broadcastInDim s ![] b (constant (F := Ideal) S_ .f32 0x7F800000#32))) (constantI S_ 1 1#1) hr h0 o = 1#1)
    (i : s.Idx) : IsReal (x i) := by
  have e := Host.reduce_andi_all _ _ hr h0 o h i
  rw [cmpf_apply, broadcastInDim_apply _ _ _ i ix0 fun a => a.elim0, constant_apply, posInf] at e
  exact isReal_of_abs_lt (of_decide_eq_true (bit_true _ e))

/-- Under the precondition every element of both arguments is real. -/
theorem args_real [Facts] (x : FVec Ideal S32768x768 .f32) (w : FVec Ideal S64x768 .f32) (h : fn x w = fun _ => 1#1) :
    (∀ i, IsReal (x i)) ∧ ∀ i, IsReal (w i) := by
  have e := IntOp.andi_eq_one.mp (congrFun h ix0)
  exact ⟨all_real x _ _ _ ix0 e.1, all_real w _ _ _ ix0 e.2⟩

/-- So is every logit. -/
theorem logits_real {x : FVec Ideal S32768x768 .f32} {w : FVec Ideal S64x768 .f32} (hx : ∀ i, IsReal (x i)) (hw : ∀ i, IsReal (w i))
    (p : Fin 32768) (q : Fin 64) : IsReal (rowOf x w p q) :=
  IsReal.sum _ fun k => (hx _).mul (hw _)

end Cert.Pre_finite.Router
-- ==== Proof.lean ====
/- The certificate, put together: the three frames, the idealization's faithfulness, and the equality of the kernel's three
   results with the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Router.Reference
public import proofs.«01_k».proof.Proof.Router.Launch
public import proofs.«01_k».proof.Proof.Router.Same
public import proofs.«01_k».proof.Proof.Router.Finite
public import Idealize.ShloMosaic.Adequacy
public import Idealize.ShloMosaic.Init

@[expose] public section

noncomputable section

namespace Cert.Proof

open Idealize.ShloMosaic Idealize.SL.Sem Cert.Kernel

set_option maxRecDepth 100000 in
/-- The two programs run the same body at each grid point: their texts are the same. -/
theorem same_bodies : @Cert.Kernel.defs₀ Bits _ _ = @Cert.KernelIdeal.defs₀ Bits _ _ := by
  refine congrArg Defs.onTc (funext fun l => funext fun x => ?_)
  match l, x with
  | 0, (t, s) => rfl

/-- So their tables of bodies, the pipeline's among them, are the same. -/
theorem same_table : @Cert.Kernel.defs Bits _ _ = @Cert.KernelIdeal.defs Bits _ _ :=
  congrArg (Pipeline.defs _) same_bodies

/-- The kernel's frame: its text is its idealization's, whose run is stated at any reading of the floating-point numbers. -/
theorem frame_kernel : Cert.quiescent_Kernel := fun m ρ _ => by
  rw [same_table]
  exact (θ_run Cert.KernelIdeal.defs _ _).mono (fun _ h => h) (Cert.KernelIdeal.Router.frame_any (F := Bits) m ρ)

/-- The idealized kernel's frame. -/
theorem frame_ideal : Cert.quiescent_KernelIdeal := fun m ρ _ => Cert.KernelIdeal.Router.frame_any (F := Ideal) m ρ

/-- The reference's frame: its run also says what its results are. -/
theorem frame_reference : Cert.quiescent_ReferenceIdeal := fun m ρ _ =>
  (θ_run Cert.ReferenceIdeal.defs _ _).mono (fun _ h => ⟨fun c => (h.1 c).2.2.2, h.2⟩) (Cert.ReferenceIdeal.Router.run (F := Ideal) m ρ)

/-- Under the precondition the two programs, given the same arguments, end with the same three results: row by row each
    result is one function of the row's logits, which are real numbers. -/
theorem same_values [hF : Cert.Pre_finite.Facts] : Cert.algebraic_KernelIdeal_ReferenceIdeal_pre_finite := fun m g m' g' hpre hargs => by
  have hreal := fun c => Cert.Pre_finite.Router.args_real _ _ (hpre c)
  have hrow := fun c p => Cert.Pre_finite.Router.logits_real (hreal c).1 (hreal c).2 p
  refine ⟨_, _, _, Cert.KernelIdeal.Router.run_values m g, (θ_run Cert.ReferenceIdeal.defs _ _).mono (fun r h c => ?_)
    (Cert.ReferenceIdeal.Router.run (F := Ideal) m' g')⟩
  obtain ⟨h0, h1, h2, ha, hb⟩ := h.1 c
  rw [(hargs c).1, (hargs c).2] at h0 h1 h2
  exact ⟨h0.trans (Cert.KernelIdeal.Router.weights_same _ _ (hrow c)), h1.trans (Cert.KernelIdeal.Router.choices_same _ _ (hrow c)), h2.trans (Cert.KernelIdeal.Router.scores_same _ _), ha, hb⟩

/-- The certificate. -/
theorem claim : Cert.Claim := ⟨Cert.Kernel.Gen.facts, Cert.KernelIdeal.Gen.facts, Cert.ReferenceIdeal.Gen.facts, Cert.Pre_finite.Router.facts,
  frame_kernel, frame_ideal, fun m ρ _ => frame_ideal m ρ trivial, frame_reference, fun m ρ _ => frame_reference m ρ trivial, trivial,
  @same_values Cert.Pre_finite.Router.facts⟩

end Cert.Proof
